-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![2048, 8192]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 2048]⟩ ⟨2, ![2048, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) : IVec S2048x2048 1 :=
  let main_cst : FVec F S_ .f32 := constant S_ .f32 0xFF800000#32
  let main_v0 : FVec F S2048x2048 .f32 := broadcastInDim S2048x2048 ![] bcast_S_S2048x2048 main_cst
  let main_v1 : IVec S2048x2048 1 := cmpf .ogt main_arg0 main_v0
  let main_cst_0 : FVec F S_ .f32 := constant S_ .f32 0x7F800000#32
  let main_v2 : FVec F S2048x2048 .f32 := broadcastInDim S2048x2048 ![] bcast_S_S2048x2048 main_cst_0
  let main_v3 : IVec S2048x2048 1 := cmpf .olt main_arg0 main_v2
  let main_v4 : IVec S2048x2048 1 := andi main_v1 main_v3
  main_v4
-- ==== Pre_finite_ReferenceIdeal.lean ====
abbrev S2048x8192 : Shape := ⟨2, ![2048, 8192]⟩
abbrev S_ : Shape := ⟨0, ![]⟩

class Facts : Prop where
  bcast_S_S2048x8192 : S_.BroadcastsInDim S2048x8192 (![] : Fin 0 → Fin S2048x8192.rank)

variable [Facts]

def fn {F : FTy → Type} [FloatOps F] (main_arg0 : FVec F S2048x8192 .f32) : IVec S2048x8192 1 :=
  let main_cst : FVec F S_ .f32 := constant S_ .f32 0xFF800000#32
  let main_v0 : FVec F S2048x8192 .f32 := broadcastInDim S2048x8192 ![] bcast_S_S2048x8192 main_cst
  let main_v1 : IVec S2048x8192 1 := cmpf .ogt main_arg0 main_v0
  let main_cst_0 : FVec F S_ .f32 := constant S_ .f32 0x7F800000#32
  let main_v2 : FVec F S2048x8192 .f32 := broadcastInDim S2048x8192 ![] bcast_S_S2048x8192 main_cst_0
  let main_v3 : IVec S2048x8192 1 := cmpf .olt main_arg0 main_v2
  let main_v4 : IVec S2048x8192 1 := andi main_v1 main_v3
  main_v4
-- ==== Kernel.lean ====
abbrev S2048x2048 : Shape := ⟨2, ![2048, 2048]⟩
abbrev S4x8x2048 : Shape := ⟨3, ![4, 8, 2048]⟩
abbrev S3 : Shape := ⟨1, ![3]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2x2048 : Shape := ⟨2, ![2, 2048]⟩
abbrev S1x2x2048 : Shape := ⟨3, ![1, 2, 2048]⟩
abbrev S1 : Shape := ⟨1, ![1]⟩
abbrev S1x8x2048 : Shape := ⟨3, ![1, 8, 2048]⟩
abbrev S8x2048 : Shape := ⟨2, ![8, 2048]⟩
abbrev S1x1x2048 : Shape := ⟨3, ![1, 1, 2048]⟩
abbrev S1x2048 : Shape := ⟨2, ![1, 2048]⟩

abbrev nBuf : Space → Nat
  | .hbm => 2
  | .vmem => 3
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .local _ .vmem, ⟨0, _⟩ => ⟨S2048x2048, .f32⟩
  | .local _ .vmem, ⟨1, _⟩ => ⟨S2048x2048, .f32⟩
  | .local _ .vmem, ⟨2, _⟩ => ⟨S4x8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v58 : BitVec 32 := Scalar.addi v2 c1_i32_35
  let c4_i32_36 : BitVec 32 := 4#32
  let c0_i32_37 : BitVec 32 := 0#32
  let v59 : BitVec 1 := Scalar.cmpi .eq c4_i32_36 c0_i32_37
  let c1_i32_38 : BitVec 32 := 1#32
  let v60 : BitVec 32 := Scalar.select v59 c1_i32_38 c4_i32_36
  let v61 : BitVec 32 := Scalar.remsi v58 v60
  let c0_i32_40 : BitVec 32 := 0#32
  let v63 : BitVec 1 := Scalar.cmpi .slt v61 c0_i32_40
  let c0_i32_41 : BitVec 32 := 0#32
  let v64 : BitVec 1 := Scalar.cmpi .slt v60 c0_i32_41
  let v65 : BitVec 1 := Scalar.xori v63 v64
  let c0_i32_39 : BitVec 32 := 0#32
  let v62 : BitVec 1 := Scalar.cmpi .ne v61 c0_i32_39
  let v66 : BitVec 1 := Scalar.andi v65 v62
  let v67 : BitVec 32 := Scalar.addi v61 v60
  let v68 : BitVec 32 := Scalar.select v66 v67 v61
  let c1_i32_46 : BitVec 32 := 1#32
  let v69 : BitVec 32 := Scalar.muli v68 c1_i32_46
  let v70 : BitVec 32 := Scalar.addi c0_i32_47 v69
  v70.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v79 : BitVec 32 := Scalar.addi v2 c2_i32_52
  let c4_i32_53 : BitVec 32 := 4#32
  let c0_i32_54 : BitVec 32 := 0#32
  let v80 : BitVec 1 := Scalar.cmpi .eq c4_i32_53 c0_i32_54
  let c1_i32_55 : BitVec 32 := 1#32
  let v81 : BitVec 32 := Scalar.select v80 c1_i32_55 c4_i32_53
  let v82 : BitVec 32 := Scalar.remsi v79 v81
  let c0_i32_57 : BitVec 32 := 0#32
  let v84 : BitVec 1 := Scalar.cmpi .slt v82 c0_i32_57
  let c0_i32_58 : BitVec 32 := 0#32
  let v85 : BitVec 1 := Scalar.cmpi .slt v81 c0_i32_58
  let v86 : BitVec 1 := Scalar.xori v84 v85
  let c0_i32_56 : BitVec 32 := 0#32
  let v83 : BitVec 1 := Scalar.cmpi .ne v82 c0_i32_56
  let v87 : BitVec 1 := Scalar.andi v86 v83
  let v88 : BitVec 32 := Scalar.addi v82 v81
  let v89 : BitVec 32 := Scalar.select v87 v88 v82
  let c1_i32_63 : BitVec 32 := 1#32
  let v90 : BitVec 32 := Scalar.muli v89 c1_i32_63
  let v91 : BitVec 32 := Scalar.addi c0_i32_64 v90
  v91.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v100 : BitVec 32 := Scalar.addi v2 c3_i32_69
  let c4_i32_70 : BitVec 32 := 4#32
  let c0_i32_71 : BitVec 32 := 0#32
  let v101 : BitVec 1 := Scalar.cmpi .eq c4_i32_70 c0_i32_71
  let c1_i32_72 : BitVec 32 := 1#32
  let v102 : BitVec 32 := Scalar.select v101 c1_i32_72 c4_i32_70
  let v103 : BitVec 32 := Scalar.remsi v100 v102
  let c0_i32_74 : BitVec 32 := 0#32
  let v105 : BitVec 1 := Scalar.cmpi .slt v103 c0_i32_74
  let c0_i32_75 : BitVec 32 := 0#32
  let v106 : BitVec 1 := Scalar.cmpi .slt v102 c0_i32_75
  let v107 : BitVec 1 := Scalar.xori v105 v106
  let c0_i32_73 : BitVec 32 := 0#32
  let v104 : BitVec 1 := Scalar.cmpi .ne v103 c0_i32_73
  let v108 : BitVec 1 := Scalar.andi v107 v104
  let v109 : BitVec 32 := Scalar.addi v103 v102
  let v110 : BitVec 32 := Scalar.select v108 v109 v103
  let c1_i32_80 : BitVec 32 := 1#32
  let v111 : BitVec 32 := Scalar.muli v110 c1_i32_80
  let v112 : BitVec 32 := Scalar.addi c0_i32_81 v111
  v112.toNat
abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x8192 : Shape := ⟨2, ![2048, 8192]⟩
abbrev S_ : Shape := ⟨0, ![]⟩
abbrev S2048 : Shape := ⟨1, ![2048]⟩
abbrev S2048x1 : Shape := ⟨2, ![2048, 1]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x8192, .f32⟩
  | .hbm, ⟨11, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.ProtoI.lean ====
/-
# The exchange of row statistics: names, contents and schedule (kernel at ideal values)

Four devices hold a block of 2048 columns each. A device computes, for each of its 2048 rows, the maximum of its block and the
sum of the exponentials below that maximum, writes the two rows of numbers into slot 0 of a scratch buffer of four slots, and copies
slot 0 into slot `i + 1` of the device `i + 1` places after it, for `i = 0, 1, 2`. This module names the slots and semaphores,
says what a slot holds, and states the schedule the proof follows: which signal or copy pays into which semaphore, how much, and
what comes with it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.ValueIdxCore
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

/-! ## The resource algebra -/

/-- The rounds library's resources for the exchange, its duties named by `Fin 3`. -/
abbrev UB : Type := URounds (GSem nD τ sig) (Fin 3)
/-- The pipeline's resources beside the exchange's. -/
abbrev UU : Type := UR sig nD τ × UB

local notation "𝕄" => MT nD τ sig Unit (Elt F) ℕ UU ℕ

/-- Where the pipeline's resources lie. -/
abbrev EP : Emb (UR sig nD τ) (MT nD τ sig Unit (Elt F) ℕ UU ℕ) := embL
/-- Where the exchange's resources lie. -/
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Who talks to whom -/

set_option backward.proofsInPublic true in
/-- The device `i + 1` places after `c`: the one `c`'s signal and copy number `i` go to. -/
def peer (c : Dev nD) (i : Fin 3) : Dev nD := ⟨(c.val + i.val + 1) % 4, Nat.mod_lt _ (by decide)⟩
set_option backward.proofsInPublic true in
/-- The device `i + 1` places before `c`: the one whose copy number `i` comes to `c`. -/
def from' (c : Dev nD) (i : Fin 3) : Dev nD := ⟨(c.val + 3 - i.val) % 4, Nat.mod_lt _ (by decide)⟩

theorem from_peer (c : Dev nD) (i : Fin 3) : from' (peer c i) i = c := by revert c i; decide
theorem peer_from (c : Dev nD) (i : Fin 3) : peer (from' c i) i = c := by revert c i; decide
/-- Going `i + 1` places on and then `3 - i` places on is going around once. -/
theorem peer_peer_rev (c : Dev nD) (i : Fin 3) : peer (peer c i) i.rev = c := by revert c i; decide
theorem peer_rev_peer (c : Dev nD) (i : Fin 3) : peer (peer c i.rev) i = c := by revert c i; decide

/-- For each `i`, stepping `i + 1` places is a permutation of the devices. -/
def step (i : Fin 3) : Dev nD ≃ Dev nD := ⟨fun c => peer c i, fun c => from' c i, fun c => from_peer c i, fun c => peer_from c i⟩

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 0 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel

/-! ## Buffers, slots, semaphores -/

abbrev xM : Memref sig .tc .vmem S2048x2048 .f32 := Memref.whole cc0_stg0_0
abbrev oM : Memref sig .tc .vmem S2048x2048 .f32 := Memref.whole cc0_stg1_0
abbrev commM : Memref sig .tc .vmem S4x8x2048 .f32 := Memref.whole cc0_scratch0

theorem slot_inb : ∀ (d : Fin 4) (a : Fin S4x8x2048.rank), (![d.val, 0, 0] : Fin 3 → ℕ) a + S1x8x2048.size a ≤ S4x8x2048.size a := by decide
theorem sem_inb : ∀ (i : Fin 3) (a : Fin S3.rank), (![i.val] : Fin 1 → ℕ) a + S1.size a ≤ S3.size a := by decide

/-- The rectangle of slot `d`. -/
abbrev slotR (d : Fin 4) : Rect S4x8x2048 := Rect.unit (s := S4x8x2048) ![d.val, 0, 0] S1x8x2048.size (slot_inb d)
/-- Slot `d` of the scratch buffer, as the copies name it. -/
abbrev slotM (d : Fin 4) : Memref sig .tc .vmem S8x2048 .f32 :=
  (commM.slice (slotR d) (fun _ => rfl)).squeeze S8x2048 squeezes_S1x8x2048_S8x2048

/-- The barrier semaphore. -/
abbrev barS : Sem sig := (SemArray.scalar (sig.barrier 0 rfl) : Sems sig S_).sem
/-- The semaphore copy `i` counts on at its sender. -/
abbrev sendS (i : Fin 3) : DmaSem sig := ((cc0_scratch1.slice (Rect.unit (s := S3) ![i.val] S1.size (sem_inb i))).squeeze S_ squeezes_S1_S_).sem
/-- The semaphore copy `i` counts on at its receiver. -/
abbrev recvS (i : Fin 3) : DmaSem sig := ((cc0_scratch2.slice (Rect.unit (s := S3) ![i.val] S1.size (sem_inb i))).squeeze S_ squeezes_S1_S_).sem

abbrev barCell (c : Dev nD) : GSem nD τ sig := ((c : Thread nD τ), .reg barS)
abbrev sendCell (c : Dev nD) (i : Fin 3) : GSem nD τ sig := ((c : Thread nD τ), .dma (sendS i))
abbrev recvCell (c : Dev nD) (i : Fin 3) : GSem nD τ sig := ((c : Thread nD τ), .dma (recvS i))

/-- What one copy of a slot counts. -/
abbrev N : ℕ := (slotM 0).view.dmaCredit
theorem N_pos : 0 < N := View.dmaCredit_pos _ (by decide)

theorem send_inj : ∀ i j : Fin 3, SemLoc.dma (sendS i) = (SemLoc.dma (sendS j) : SemLoc sig) → i = j := by decide
theorem recv_inj : ∀ i j : Fin 3, SemLoc.dma (recvS i) = (SemLoc.dma (recvS j) : SemLoc sig) → i = j := by decide
theorem send_ne_recv : ∀ i j : Fin 3, (SemLoc.dma (sendS i) : SemLoc sig) ≠ .dma (recvS j) := by decide
theorem send_ne_bar (i : Fin 3) : (SemLoc.dma (sendS i) : SemLoc sig) ≠ .reg barS := fun h => by cases h
theorem recv_ne_bar (i : Fin 3) : (SemLoc.dma (recvS i) : SemLoc sig) ≠ .reg barS := fun h => by cases h

/-! ## Contents -/

/-- The slot's index `(r, j)` is the buffer's index `(d, r, j)`. -/
theorem slot_emb (d : Fin 4) (r : Fin 8) (j : Fin 2048) : (slotM d).view.emb (ix2 r j) = (ix3 d r j : S4x8x2048.Idx) := by
  show (slotR d).emb (Shape.reshapeEquiv _ (ix2 r j)) = _
  rw [show (Shape.reshapeEquiv (squeezes_S1x8x2048_S8x2048 : (slotR d).shape.Squeezes S8x2048).numel_eq (ix2 r j) : S1x8x2048.Idx) = ix3 0 r j from
    (Shape.reshapeEquiv_cons_one (d := ![8, 2048]) _ _).trans (funext fun a => match a with | ⟨0, _⟩ => rfl | ⟨1, _⟩ => rfl | ⟨2, _⟩ => rfl)]
  funext a
  match a with
  | ⟨0, _⟩ => apply Fin.ext; show d.val + 1 * 0 = d.val; omega
  | ⟨1, _⟩ => apply Fin.ext; show 0 + 1 * r.val = r.val; omega
  | ⟨2, _⟩ => apply Fin.ext; show 0 + 1 * j.val = j.val; omega

/-- Contents `f` of the scratch buffer hold the two statistics rows `p` in the first two rows of slot `d`. -/
def Stat (d : Fin 4) (f : S4x8x2048.Idx → Elt F .f32) (p : S1x2x2048.Idx → Elt F .f32) : Prop :=
  ∀ (r : Fin 2) (j : Fin 2048), f (ix3 d (r.castLE (by decide)) j) = p (ix3 0 r j)

/-- Row `r` of the statistics, as a load of it yields it. -/
def rowOf (p : S1x2x2048.Idx → Elt F .f32) (r : Fin 2) : S1x1x2048.Idx → Elt F .f32 := fun i => p (ix3 0 r (i 2))

omit [FloatOps F] in
/-- A copy of slot 0 into slot `d` carries the statistics along. -/
theorem stat_copy (d : Fin 4) (fd fs : S4x8x2048.Idx → Elt F .f32) (p : S1x2x2048.Idx → Elt F .f32) (h : Stat 0 fs p) :
    Stat d ((slotM d).view.write (Elt F) fd ((slotM 0).view.read (Elt F) fs) Finset.univ) p := by
  intro r j
  rw [← slot_emb d]
  refine (View.write_emb_of_mem (v := (slotM d).view) fd ((slotM 0).view.read (Elt F) fs) (Finset.mem_univ _)).trans ?_
  show fs ((slotM 0).view.emb _) = _
  rw [slot_emb 0]
  exact h r j

omit [FloatOps F] in
/-- The kernel's store of the statistics puts them in slot 0. -/
theorem stat_store (f : S4x8x2048.Idx → Elt F .f32) (p : S1x2x2048.Idx → Elt F .f32)
    (inb : ∀ a, (![0, 0, 0] : Fin 3 → ℕ) a + S1x2x2048.size a ≤ S4x8x2048.size a) :
    Stat 0 ((commM.access (Rect.unit (s := S4x8x2048) ![0, 0, 0] S1x2x2048.size inb) : View sig .tc _ _ _).write (Elt F) f p Finset.univ) p := by
  intro r j
  have he : (commM.access (Rect.unit (s := S4x8x2048) ![0, 0, 0] S1x2x2048.size inb) : View sig .tc _ _ _).emb (ix3 0 r j)
      = (ix3 0 (r.castLE (by decide)) j : S4x8x2048.Idx) := by
    show (Rect.unit (s := S4x8x2048) ![0, 0, 0] S1x2x2048.size inb).emb (ix3 0 r j) = _
    funext a
    match a with
    | ⟨0, _⟩ => apply Fin.ext; rfl
    | ⟨1, _⟩ => apply Fin.ext; show 0 + 1 * r.val = r.val; omega
    | ⟨2, _⟩ => apply Fin.ext; show 0 + 1 * j.val = j.val; omega
  rw [← he]
  exact View.write_emb_of_mem (v := (commM.access (Rect.unit (s := S4x8x2048) ![0, 0, 0] S1x2x2048.size inb) : View sig .tc _ _ _)) f p (Finset.mem_univ _)

/-- The elements of slot `d` are those of its rectangle. -/
theorem slot_set (d : Fin 4) : (slotM d).view.set = (slotR d).set := by
  show (((View.whole cc0_scratch0).slice (slotR d)).reshape S8x2048 (squeezes_S1x8x2048_S8x2048 : (slotR d).shape.Squeezes S8x2048).numel_eq).set = _
  rw [View.set_reshape, View.set_slice_whole]

theorem row_inb : ∀ (d : Fin 4) (r : Fin 2) (a : Fin S4x8x2048.rank), (![d.val, r.val, 0] : Fin 3 → ℕ) a + S1x1x2048.size a ≤ S4x8x2048.size a := by decide
/-- The rectangle of row `r` of slot `d`. -/
abbrev rowR (d : Fin 4) (r : Fin 2) : Rect S4x8x2048 := Rect.unit (s := S4x8x2048) ![d.val, r.val, 0] S1x1x2048.size (row_inb d r)

/-- A load of row `r` of slot `d` touches slot `d` only. -/
theorem row_sub (d : Fin 4) (r : Fin 2) : commM.view.setOn (rowR d r).toLoadRect.set ⊆ (slotM d).view.set := by
  rw [slot_set]
  intro i hi
  obtain ⟨x, hx, rfl⟩ := Finset.mem_map.mp hi
  have hb := Rect.mem_set_unit.mp (show x ∈ (rowR d r).set from hx)
  refine Rect.mem_set_unit.mpr fun a => ?_
  have hr := r.isLt
  match a with
  | ⟨0, _⟩ => have h : d.val ≤ (x 0).val ∧ (x 0).val < d.val + 1 := hb 0; exact h
  | ⟨1, _⟩ =>
    have h : r.val ≤ (x 1).val ∧ (x 1).val < r.val + 1 := hb 1
    show 0 ≤ (x 1).val ∧ (x 1).val < 0 + 8; omega
  | ⟨2, _⟩ => have h : 0 ≤ (x 2).val ∧ (x 2).val < 0 + 2048 := hb 2; exact h

/-- The store of the statistics touches slot 0 only. -/
theorem stat_sub (inb : ∀ a, (![0, 0, 0] : Fin 3 → ℕ) a + S1x2x2048.size a ≤ S4x8x2048.size a) :
    (commM.access (Rect.unit (s := S4x8x2048) ![0, 0, 0] S1x2x2048.size inb)).setOn Finset.univ ⊆ (slotM 0).view.set := by
  rw [slot_set]
  intro i hi
  obtain ⟨y, -, rfl⟩ := Finset.mem_map.mp hi
  refine Rect.mem_set_unit.mpr fun a => ?_
  have h0 : (y 0).val < 1 := (y 0).isLt
  have h1 : (y 1).val < 2 := (y 1).isLt
  have h2 : (y 2).val < 2048 := (y 2).isLt
  match a with
  | ⟨0, _⟩ => show 0 ≤ 0 + 1 * (y 0).val ∧ 0 + 1 * (y 0).val < 0 + 1; omega
  | ⟨1, _⟩ => show 0 ≤ 0 + 1 * (y 1).val ∧ 0 + 1 * (y 1).val < 0 + 8; omega
  | ⟨2, _⟩ => show 0 ≤ 0 + 1 * (y 2).val ∧ 0 + 1 * (y 2).val < 0 + 2048; omega

theorem stat_load_sub (inb : ∀ a, (![0, 0, 0] : Fin 3 → ℕ) a + S1x2x2048.size a ≤ S4x8x2048.size a) :
    commM.view.setOn (Rect.unit (s := S4x8x2048) ![0, 0, 0] S1x2x2048.size inb).toLoadRect.set ⊆ (slotM 0).view.set := by
  rw [slot_set]
  intro i hi
  obtain ⟨x, hx, rfl⟩ := Finset.mem_map.mp hi
  have hb := Rect.mem_set_unit.mp (show x ∈ (Rect.unit (s := S4x8x2048) ![0, 0, 0] S1x2x2048.size inb).set from hx)
  refine Rect.mem_set_unit.mpr fun a => ?_
  match a with
  | ⟨0, _⟩ => have h : 0 ≤ (x 0).val ∧ (x 0).val < 0 + 1 := hb 0; exact h
  | ⟨1, _⟩ =>
    have h : 0 ≤ (x 1).val ∧ (x 1).val < 0 + 2 := hb 1
    show 0 ≤ (x 1).val ∧ (x 1).val < 0 + 8; omega
  | ⟨2, _⟩ => have h : 0 ≤ (x 2).val ∧ (x 2).val < 0 + 2048 := hb 2; exact h

omit [FloatOps F] in
/-- A load of row `r` of a slot that holds the statistics `p` yields row `r` of `p`. -/
theorem stat_load {d : Fin 4} {f : S4x8x2048.Idx → Elt F .f32} {p : S1x2x2048.Idx → Elt F .f32} (h : Stat d f p) (r : Fin 2) :
    commM.view.readAt (Elt F) (rowR d r).toLoadRect f = rowOf p r := by
  funext y
  show f ((rowR d r).emb y) = p (ix3 0 r (y 2))
  rw [← h r (y 2)]
  congr 1
  have h0 : (y 0).val < 1 := (y 0).isLt
  have h1 : (y 1).val < 1 := (y 1).isLt
  funext a
  match a with
  | ⟨0, _⟩ => apply Fin.ext; show d.val + 1 * (y 0).val = d.val; omega
  | ⟨1, _⟩ => apply Fin.ext; show r.val + 1 * (y 1).val = r.val; omega
  | ⟨2, _⟩ => apply Fin.ext; show 0 + 1 * (y 2).val = (y 2).val; omega

/-- Device `c`'s block of the input, as it lies staged. -/
def xstg (c : Dev nD) : (cc0_stg0_0 : Ref sig .tc).ty.Contents (Elt F) :=
  (win0_0.blk t0_0).view.read (Elt F) ((s₀ m ρ).mem ((c : Thread nD τ).loc main_arg0))

/-- The statistics of device `c`'s block: row 0 the row maxima, row 1 the sums of exponentials. -/
def stats (c : Dev nD) : S1x2x2048.Idx → Elt F .f32 := k0_pay5 (xstg m ρ c)

/-- Slot `d` of device `c`, share `q`, at contents `f`. -/
def slotPts (c : Dev nD) (d : Fin 4) (q : PosShare TreeShare) (f : S4x8x2048.Idx → Elt F .f32) : sProp 𝕄 :=
  (slotM d).view.loc (c : Thread nD τ) ↦[(slotM d).view.set]{q} f

omit [FloatOps F] in
instance slotPts_storable (c : Dev nD) (d : Fin 4) (q) (f) : BI.Storable (upEmb : UEmb _ 𝕄) (slotPts (F := F) c d q f) := by
  unfold slotPts; infer_instance

/-! ## The schedule -/

/-- Signal `i.rev` of device `peer c i` tells `c` that slot `i + 1` there is free: the slot comes with it, for `c` to copy into. -/
def barPay (c : Dev nD) (i : Fin 3) : sProp 𝕄 := iprop(∃ f, slotPts (peer c i) i.succ fullShare f)
/-- Copy `i`, once it has landed at `c`: slot `i + 1` with the statistics of the device it came from. -/
def recvPay (c : Dev nD) (i : Fin 3) : sProp 𝕄 := iprop(∃ f, ⌜Stat i.succ f (stats m ρ (from' c i))⌝ ∗ slotPts c i.succ fullShare f)
/-- Copy `i`, once it has been read at `c`: the third of slot 0 it was lent. -/
def sendPay (c : Dev nD) (i : Fin 3) : sProp 𝕄 := iprop(∃ f, ⌜Stat 0 f (stats m ρ c)⌝ ∗ slotPts c 0 (Ring.shares3 fullShare i) f)

abbrev IsBar (g : GSem nD τ sig) : Prop := g.1.2 = .tc ∧ g.2 = .reg barS
abbrev IsXfer (g : GSem nD τ sig) (i : Fin 3) : Prop := g.2 = .dma (sendS i) ∨ g.2 = .dma (recvS i)

/-- One round. A barrier semaphore is paid one unit by each of the three other devices; a send or receive semaphore what one copy
    counts, by the copy whose number it bears. -/
def ringRd : Rounds.Schedule (GSem nD τ sig) (Fin 3) 𝕄 where
  duties g r := if r = 0 ∧ IsBar g then Finset.univ else if r = 0 ∧ g.1.2 = .tc then Finset.univ.filter (IsXfer g) else ∅
  unitless _ := False
  amount g _ _ := if g.2 = .reg barS then 1 else N
  payload g _ i :=
    if g.2 = .reg barS then barPay g.1.1 i
    else if g.2 = .dma (recvS i) then recvPay m ρ g.1.1 i
    else if g.2 = .dma (sendS i) then sendPay m ρ g.1.1 i
    else iprop(emp)
  amount_pos g _ _ _ := by
    by_cases h : g.2 = .reg barS
    · rw [if_pos h]; exact Nat.one_pos
    · rw [if_neg h]; exact N_pos

instance ringRd_payload_storable (g : GSem nD τ sig) (r : ℕ) (i : Fin 3) :
    BI.Storable (upEmb : UEmb _ 𝕄) ((ringRd (F := F) m ρ).payload g r i) := by
  show BI.Storable upEmb (if g.2 = .reg barS then barPay g.1.1 i else if g.2 = .dma (recvS i) then recvPay m ρ g.1.1 i
    else if g.2 = .dma (sendS i) then sendPay m ρ g.1.1 i else iprop(emp))
  unfold barPay recvPay sendPay
  (repeat' split) <;> infer_instance

section Sched
variable (c : Dev nD) (i : Fin 3)

theorem duties_bar : (ringRd (F := F) m ρ).duties (barCell c) 0 = Finset.univ := by dsimp only [ringRd]; exact if_pos ⟨rfl, rfl, rfl⟩
theorem duties_send : (ringRd (F := F) m ρ).duties (sendCell c i) 0 = {i} := by
  dsimp only [ringRd]; rw [if_neg (fun h => send_ne_bar i h.2.2), if_pos ⟨rfl, rfl⟩]
  ext j
  rw [Finset.mem_filter, Finset.mem_singleton]
  exact ⟨fun h => h.2.elim (fun h => (send_inj _ _ h).symm) (fun h => absurd h (send_ne_recv i j)), fun h => h ▸ ⟨Finset.mem_univ _, .inl rfl⟩⟩
theorem duties_recv : (ringRd (F := F) m ρ).duties (recvCell c i) 0 = {i} := by
  dsimp only [ringRd]; rw [if_neg (fun h => recv_ne_bar i h.2.2), if_pos ⟨rfl, rfl⟩]
  ext j
  rw [Finset.mem_filter, Finset.mem_singleton]
  exact ⟨fun h => h.2.elim (fun h => absurd h.symm (send_ne_recv j i)) (fun h => (recv_inj _ _ h).symm), fun h => h ▸ ⟨Finset.mem_univ _, .inr rfl⟩⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 3) : (ringRd (F := F) m ρ).amount (barCell c) 0 d = 1 := by dsimp only [ringRd]; exact if_pos rfl
theorem amount_send (d : Fin 3) : (ringRd (F := F) m ρ).amount (sendCell c i) 0 d = N := by dsimp only [ringRd]; exact if_neg (send_ne_bar i)
theorem amount_recv (d : Fin 3) : (ringRd (F := F) m ρ).amount (recvCell c i) 0 d = N := by dsimp only [ringRd]; exact if_neg (recv_ne_bar i)

theorem expect_bar : (ringRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (ringRd (F := F) m ρ).expect (sendCell c i) 0 = N := by
  unfold Schedule.expect Schedule.amountOf; rw [duties_send, Finset.sum_singleton, amount_send]
theorem expect_recv : (ringRd (F := F) m ρ).expect (recvCell c i) 0 = N := by
  unfold Schedule.expect Schedule.amountOf; rw [duties_recv, Finset.sum_singleton, amount_recv]

theorem payload_bar : (ringRd (F := F) m ρ).payload (barCell c) 0 i = barPay c i := by dsimp only [ringRd]; rw [if_pos rfl]
theorem payload_send : (ringRd (F := F) m ρ).payload (sendCell c i) 0 i = sendPay m ρ c i := by
  dsimp only [ringRd]; rw [if_neg (send_ne_bar i), if_neg (send_ne_recv i i), if_pos rfl]
theorem payload_recv : (ringRd (F := F) m ρ).payload (recvCell c i) 0 i = recvPay m ρ c i := by
  dsimp only [ringRd]; rw [if_neg (recv_ne_bar i), if_pos rfl]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- What the whole of a barrier's round brings: the three slots to copy into. -/
theorem rest_bar : bigSep ((ringRd (F := F) m ρ).duties (barCell c) 0 \ ∅) (fun d => (ringRd (F := F) m ρ).payload (barCell c) 0 d)
    = iprop(barPay c 0 ∗ barPay c 1 ∗ barPay c 2) := by
  rw [Finset.sdiff_empty, duties_bar, bigSep_fin3, payload_bar, payload_bar, payload_bar]
theorem rest_send : bigSep ((ringRd (F := F) m ρ).duties (sendCell c i) 0 \ ∅) (fun d => (ringRd (F := F) m ρ).payload (sendCell c i) 0 d) = sendPay m ρ c i := by
  rw [Finset.sdiff_empty, duties_send, bigSep_singleton, payload_send]
theorem rest_recv : bigSep ((ringRd (F := F) m ρ).duties (recvCell c i) 0 \ ∅) (fun d => (ringRd (F := F) m ρ).payload (recvCell c i) 0 d) = recvPay m ρ c i := by
  rw [Finset.sdiff_empty, duties_recv, bigSep_singleton, payload_recv]

end Sched

/-! ## What each device owes at launch; the levels -/

/-- What a device still owes when it starts copying: the three copies, the last summand the first to be paid. -/
def OR (c : Dev nD) : CellTallies nD τ sig Unit :=
  ((0 + tallyAt (recvCell (peer c 2) 2) () N) + tallyAt (recvCell (peer c 1) 1) () N) + tallyAt (recvCell (peer c 0) 0) () N
/-- What a device owes at launch: that, and one signal to each other device. -/
def O₀ (c : Dev nD) : CellTallies nD τ sig Unit :=
  ((OR c + tallyAt (barCell (peer c 2)) () 1) + tallyAt (barCell (peer c 1)) () 1) + tallyAt (barCell (peer c 0)) () 1

def L (g : GSem nD τ sig) : Finset Unit := if g.1.2 = .tc then {()} else ∅
/-- Barrier semaphores at level 1, receive semaphores at 2, all others at 0. -/
def lv (g : GSem nD τ sig) (_ : Unit) : ℕ := if g.2 = .reg barS then 1 else if ∃ i, g.2 = .dma (recvS i) then 2 else 0

theorem lv_bar (c : Dev nD) : lv (barCell c) () = 1 := if_pos rfl
theorem lv_recv (c : Dev nD) (i : Fin 3) : lv (recvCell c i) () = 2 := (if_neg (recv_ne_bar i)).trans (if_pos ⟨i, rfl⟩)

theorem L_of_ne (g : GSem nD τ sig) (h : g.1.2 ≠ .tc) : L g = ∅ := if_neg h
theorem L_tc (c : Dev nD) (sm : SemLoc sig) : L ((c : Thread nD τ), sm) = {()} := if_pos rfl

theorem OR_pos {c : Dev nD} {g : GSem nD τ sig} {u : Unit} (h : 0 < OR c g u) : ∃ i, g = recvCell (peer c i) i := by
  unfold OR at h
  simp only [Pi.add_apply, Finsupp.add_apply, tallyAt_apply, Pi.zero_apply, Finsupp.zero_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ i, g = recvCell (peer c i) i) ∨ ∃ i, g = barCell (peer c i) := by
  by_contra hn
  rw [not_or, not_exists] at hn
  have hz : OR c g u = 0 := Nat.eq_zero_of_not_pos fun h' => (OR_pos h').elim fun i hi => hn.1 i hi
  have hb := not_exists.mp hn.2
  unfold O₀ at h
  simp only [Pi.add_apply, Finsupp.add_apply, tallyAt_apply, hz] at h
  rw [if_neg (fun h' => hb 2 h'.1), if_neg (fun h' => hb 1 h'.1), if_neg (fun h' => hb 0 h'.1)] at h
  exact Nat.lt_irrefl 0 h

omit [FloatOps F] in
/-- A wait on a staging semaphore is allowed: nothing owed lies as low. -/
theorem mayWait_stage (c : Dev nD) (q : DmaSem sig) (hq : ∀ i, SemLoc.dma q ≠ (SemLoc.dma (recvS i) : SemLoc sig))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by
        rw [Finset.mem_singleton.mp hp]; dsimp only [lv]
        rw [if_neg (fun h => by cases h), if_neg (fun ⟨i, h⟩ => hq i h)])
      (fun g u hg => by
        cases u
        rcases O₀_pos hg with ⟨i, rfl⟩ | ⟨i, rfl⟩
        · rw [lv_recv]; decide
        · rw [lv_bar]; decide)
  · rw [MayWait_zero]; iintro -; iempintro

omit [FloatOps F] in
/-- At the barrier only the copies are owed: they lie above it. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨i, rfl⟩ := OR_pos hg; exact Finset.mem_singleton_self _)
    (fun p hp => by rw [Finset.mem_singleton.mp hp]; dsimp only [lv]; rw [if_pos rfl])
    (fun g u hg => by cases u; obtain ⟨i, rfl⟩ := OR_pos hg; rw [lv_recv]; decide)

end Cert.KernelIdeal.Exchange

end
-- ==== Proof.BodyI.lean ====
/-
# One device's run of the kernel body (kernel at ideal values)

The body run effect by effect: three signals, each handing a slot to the device that will fill it; the wait for the three signals of
the others; the block's exponentials and statistics; three copies, each lent a third of slot 0; six waits; the loads of the eight
statistics rows; the rescaled result.
-/
module

public import proofs.«01_k».proof.Proof.ProtoI

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The cells of one device: its barrier, its three send and its three receive semaphores. -/
abbrev Kx : Type := Unit ⊕ (Fin 3 ⊕ Fin 3)
/-- The kernel's own semaphores: three to send, three to receive. -/
abbrev osem : Fin 3 ⊕ Fin 3 → SemLoc sig := fun | .inl i => .dma (sendS i) | .inr i => .dma (recvS i)
abbrev csem : Kx → SemLoc sig := fun | .inl _ => .reg barS | .inr k => osem k
abbrev kcell (ck : Dev nD × Kx) : GSem nD τ sig := ((ck.1 : Thread nD τ), csem ck.2)

/-- The index of the barrier, of send semaphore `i`, of receive semaphore `i`. -/
abbrev kB : Kx := .inl ()
abbrev kS (i : Fin 3) : Kx := .inr (.inl i)
abbrev kR (i : Fin 3) : Kx := .inr (.inr i)

/-- What every device knows: the invariant of every cell, and that every cell is in its one round. -/
def records (K : Dev nD × Kx → ℕ) : sProp 𝕄 :=
  iprop((bigSep Finset.univ fun ck : Dev nD × Kx => cellInv ER (ringRd m ρ) (K ck) (kcell ck))
    ∗ bigSep Finset.univ fun ck : Dev nD × Kx => reached ER (kcell ck) 0)

instance records_persistent (K : Dev nD × Kx → ℕ) : BI.Persistent (records m ρ K) := by unfold records; infer_instance

theorem inv_of (K : Dev nD × Kx → ℕ) (ck : Dev nD × Kx) :
    (bigSep Finset.univ fun ck : Dev nD × Kx => (cellInv ER (ringRd m ρ) (K ck) (kcell ck) : sProp 𝕄)) ⊢ cellInv ER (ringRd m ρ) (K ck) (kcell ck) :=
  bigSep_elim (Finset.mem_univ ck)
omit [FloatOps F] in
theorem reached_of (ck : Dev nD × Kx) :
    (bigSep Finset.univ fun ck : Dev nD × Kx => (reached ER (kcell ck) 0 : sProp 𝕄)) ⊢ reached ER (kcell ck) 0 :=
  bigSep_elim (Finset.mem_univ ck)

theorem inv_at (K : Dev nD × Kx → ℕ) (ck : Dev nD × Kx) : records m ρ K ⊢ cellInv ER (ringRd m ρ) (K ck) (kcell ck) := by
  unfold records
  iintro ⟨HI, -⟩
  iapply (inv_of m ρ K ck); iexact HI
theorem reached_at (K : Dev nD × Kx → ℕ) (ck : Dev nD × Kx) : records m ρ K ⊢ reached ER (kcell ck) 0 := by
  unfold records
  iintro ⟨-, HR⟩
  iapply (reached_of (F := F) ck); iexact HR

/-- The duties device `c` pays: a signal to each other device, the landing of each of its copies, the reading of each. -/
def payToks (c : Dev nD) : sProp 𝕄 :=
  iprop((bigSep Finset.univ fun i : Fin 3 => dutyTok ER (barCell (peer c i)) 0 i.rev)
    ∗ (bigSep Finset.univ fun i : Fin 3 => dutyTok ER (sendCell c i) 0 i)
    ∗ (bigSep Finset.univ fun i : Fin 3 => dutyTok ER (recvCell (peer c i) i) 0 i))

/-- Device `c`'s positions at its cells, and the duties it pays. -/
def linear (c : Dev nD) : sProp 𝕄 :=
  iprop((atPos ER (barCell c) 0 ∅ 0 ∗ (bigSep Finset.univ fun i : Fin 3 => atPos ER (sendCell c i) 0 ∅ 0)
      ∗ (bigSep Finset.univ fun i : Fin 3 => atPos ER (recvCell c i) 0 ∅ 0)) ∗ payToks c)

def ghost (K : Dev nD × Kx → ℕ) (c : Dev nD) : sProp 𝕄 := iprop(records m ρ K ∗ linear c)

/-- The tokens for what the others owe device `c`. -/
def credits (c : Dev nD) : sProp 𝕄 :=
  iprop(cred (tallyAt (barCell c) () 3) ∗ bigSep Finset.univ fun i : Fin 3 => cred (tallyAt (recvCell c i) () N))

/-- What the body of device `c` starts from, beside its buffers. -/
def start (c : Dev nD) : sProp 𝕄 := iprop((∃ K, ghost m ρ K c) ∗ credits c ∗ levAts L lv)

/-- The four slots of device `c`, each at some contents. -/
def slots (c : Dev nD) : sProp 𝕄 := bigSep Finset.univ fun d : Fin 4 => iprop(∃ f, slotPts c d fullShare f)

omit [FloatOps F] in
theorem slots_eq (c : Dev nD) : (slots c : sProp 𝕄) = iprop((∃ f, slotPts c 0 fullShare f) ∗ (∃ f, slotPts c (Fin.succ 0) fullShare f)
    ∗ (∃ f, slotPts c (Fin.succ 1) fullShare f) ∗ ∃ f, slotPts c (Fin.succ 2) fullShare f) :=
  bigSep_univ_eq_bigSepL [0, 1, 2, 3] (by decide) (by decide) _

def Φ₀ (c : Dev nD) : sProp 𝕄 := iprop(start m ρ c ∗ slots c)
/-- At the end: the slots back, and all seven cells closed with their counters at zero. -/
def Φ₁ (c : Dev nD) : sProp 𝕄 :=
  iprop(slots c ∗ semVal (barCell c) 0 ∗ (bigSep Finset.univ fun i : Fin 3 => semVal (sendCell c i) 0)
    ∗ bigSep Finset.univ fun i : Fin 3 => semVal (recvCell c i) 0)

/-- The statistics that lie in slot `d` of device `c` after the exchange: its own in slot 0, in slot `i + 1` those of the device
    `i + 1` places before it. -/
def slotStats (c : Dev nD) (d : Fin 4) : S1x2x2048.Idx → Elt F .f32 := Fin.cases (stats m ρ c) (fun i => stats m ρ (from' c i)) d

/-- Row `r` of what lies in slot `d` of device `c` after the exchange. -/
def rowAt (c : Dev nD) (d : Fin 4) (r : Fin 2) : Vec F S1x1x2048 .f32 := rowOf (slotStats m ρ c d) r

/-- The kernel's result on device `c`. -/
def outAt (c : Dev nD) : (cc0_stg1_0 : Ref sig .tc).ty.Contents (Elt F) :=
  k0_pay1 (k0_pay10 (k0_pay4 (xstg m ρ c)))
    (k0_pay11 (k0_pay6 (rowAt m ρ c 0 0)) (k0_pay7 (rowAt m ρ c 0 0) (rowAt m ρ c 1 0) (rowAt m ρ c 2 0) (rowAt m ρ c 3 0)) k0_pay8
      (k0_pay9 (rowAt m ρ c 0 1)) (rowAt m ρ c 0 0) (rowAt m ρ c 1 1) (rowAt m ρ c 1 0) (rowAt m ρ c 2 1) (rowAt m ρ c 2 0)
      (rowAt m ρ c 3 1) (rowAt m ρ c 3 0))

/-- The pipeline's data: the windows' arrays as launched, the staging buffers after the body, what is held and owed around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The steps -/

section Steps

variable (K : Dev nD × Kx → ℕ)

/-- Signal `i`: device `c` hands its slot `3 - i` to the device it signals, which will copy into it. -/
theorem wp_sig (c n : Dev nD) (i : Fin 3) (hn : n = peer c i) (O : CellTallies nD τ sig Unit) (W : Waits sig Unit)
    {α : Type} {Q : α → sProp 𝕄} {k : PUnit → Prog (TpuEff nD τ sig (Elt F) Λ₀ .tc) α} :
    iprop(records m ρ K ∗ (∃ f, slotPts c i.rev.succ fullShare f) ∗ owes (c : Thread nD τ) (O + tallyAt (barCell (peer c i)) () 1) W
        ∗ dutyTok ER (barCell (peer c i)) 0 i.rev)
      ⊢ iprop((owes (c : Thread nD τ) O W -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n : Thread nD τ) barS (1#32).toNat) k) Q) := by
  subst hn
  iintro ⟨#HR, Hs, HO, Ht⟩ Hk
  iapply (Rounds.wp_signal 𝒱₀ ER (ringRd m ρ) (c : Thread nD τ) none (dst := (peer c i : Thread nD τ)) (κ := K (peer c i, kB))
      (d := i.rev) (by rw [duties_bar]; exact Finset.mem_univ _) ((amount_bar m ρ (peer c i) i.rev).trans (by decide)) () O rfl) $$ [HO Ht Hs]
  · isplitr; · iapply (inv_at m ρ K (peer c i, kB)); iexact HR
    isplitl [HO]; · iexact HO
    isplitl [Ht]; · iexact Ht
    isplitl [Hs]
    · rw [payload_bar]; unfold barPay; rw [peer_peer_rev]; iexact Hs
    iapply (reached_at m ρ K (peer c i, kB)); iexact HR
  iexact Hk

/-- The barrier wait: the slots of the three other devices that `c` will copy into. -/
theorem wp_bar (c : Dev nD) (W : Waits sig Unit)
    {α : Type} {Q : α → sProp 𝕄} {k : PUnit → Prog (TpuEff nD τ sig (Elt F) Λ₀ .tc) α} :
    iprop(records m ρ K ∗ levAts L lv ∗ cred (tallyAt (barCell c) () 3) ∗ owes (c : Thread nD τ) (OR c) W ∗ atPos ER (barCell c) 0 ∅ 0)
      ⊢ iprop(((owes (c : Thread nD τ) (OR c) (insert (SemLoc.reg barS, ()) W) ∗ atPos ER (barCell c) (0 + 1) ∅ 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  iintro ⟨#HR, #Hlev, Hc, HO, Hat⟩ Hk
  iapply (Rounds.wp_wait_rest_token 𝒱₀ ER (ringRd m ρ) (c : Thread nD τ) none (κ := K (c, kB))
      (wpE_semWait_eq 𝒱₀ (c : Thread nD τ) none Set.univ) (Set.mem_univ _) () (O := OR c) (W := W) (R := 0) (m := 0) (T := ∅)
      (by rw [expect_bar]; decide)) $$ [Hc HO Hat]
  · isplitr; · iapply (inv_at m ρ K (c, kB)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

theorem credit_eq (d : Fin 4) : (slotM d).view.dmaCredit = N := rfl

/-- A third of slot 0 at contents that hold the statistics is what the reading of a copy brings back. -/
theorem pay_sent (c : Dev nD) (i : Fin 3) {fs : S4x8x2048.Idx → Elt F .f32} (hfs : Stat 0 fs (stats m ρ c)) :
    slotPts c 0 (Ring.shares3 fullShare i) fs ⊢ (ringRd m ρ).payload (sendCell c i) 0 i := by
  rw [payload_send]; unfold sendPay
  iintro H; iexists fs; isplitr; · (ipureintro; exact hfs)
  iexact H

/-- A slot written from slot 0 is what the landing of a copy brings. -/
theorem pay_landed (c : Dev nD) (i : Fin 3) (fd : S4x8x2048.Idx → Elt F .f32) {fs : S4x8x2048.Idx → Elt F .f32} (hfs : Stat 0 fs (stats m ρ c)) :
    slotPts (peer c i) i.succ fullShare ((slotM i.succ).view.write (Elt F) fd ((slotM 0).view.read (Elt F) fs) Finset.univ)
      ⊢ (ringRd m ρ).payload (recvCell (peer c i) i) 0 i := by
  rw [payload_recv]; unfold recvPay; rw [from_peer]
  iintro H; iexists _; isplitr; · (ipureintro; exact stat_copy i.succ fd fs _ hfs)
  iexact H

/-- Copy `i`: from slot 0, a third of it lent, into slot `i + 1` of the device `i + 1` places on. -/
theorem wp_copy (c n : Dev nD) (i : Fin 3) (hn : n = peer c i) {hsc : (slotM i.succ).view.ref.isScScratch = false}
    {hsrc : (slotM 0).view.WordExact} {hdst : (slotM i.succ).view.WordExact}
    {hsem : DmaTarget.Typed .vmem (.dma (recvS i)) (.remote (Dev.tc n : Thread nD τ) (slotM i.succ) (.dma (sendS i)) hsc)}
    {fs : S4x8x2048.Idx → Elt F .f32} (hfs : Stat 0 fs (stats m ρ c)) (O : CellTallies nD τ sig Unit) (W : Waits sig Unit)
    {α : Type} {Q : α → sProp 𝕄} {k : PUnit → Prog (TpuEff nD τ sig (Elt F) Λ₀ .tc) α} :
    iprop(records m ρ K ∗ slotPts c 0 (Ring.shares3 fullShare i) fs ∗ barPay c i
        ∗ owes (c : Thread nD τ) (O + tallyAt (recvCell (peer c i) i) () N) W
        ∗ dutyTok ER (sendCell c i) 0 i ∗ dutyTok ER (recvCell (peer c i) i) 0 i)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM i.succ) (.dma (sendS i)) hsc) (.dma (recvS i)) hsrc hdst hsem) k) Q) := by
  subst hn
  unfold slotPts barPay
  iintro ⟨#HR, Hsrc, ⟨%fd, Hdst⟩, HO, HtS, HtR⟩ Hk
  unfold slotPts
  iapply (Rounds.wp_send_pointsTo 𝒱₀ ER (ringRd m ρ) (c : Thread nD τ) none (c' := (peer c i : Thread nD τ)) (src := slotM 0) (dst := slotM i.succ)
    (sS := .dma (sendS i)) (sem := .dma (recvS i)) (κ₁ := K (c, kS i)) (κ₂ := K (peer c i, kR i))
    (r₁ := 0) (r₂ := 0) (d₁ := i) (d₂ := i) (fs := fs) (fd := fd)
    (by rw [duties_send]; exact Finset.mem_singleton_self _) (by rw [duties_recv]; exact Finset.mem_singleton_self _)
    () () N (credit_eq i.succ) (amount_send m ρ c i i) (amount_recv m ρ (peer c i) i i) O rfl (W := W)
    (pay_sent m ρ c i hfs) (pay_landed m ρ c i fd hfs)) $$ [Hsrc Hdst HO HtS HtR]
  · isplitr; · iapply (inv_at m ρ K (c, kS i)); iexact HR
    isplitr; · iapply (inv_at m ρ K (peer c i, kR i)); iexact HR
    isplitl [Hsrc]; · iexact Hsrc
    isplitl [Hdst]; · iexact Hdst
    isplitl [HO]; · iexact HO
    isplitl [HtS]; · iexact HtS
    isplitr; · iapply (reached_at m ρ K (c, kS i)); iexact HR
    isplitl [HtR]; · iexact HtR
    iapply (reached_at m ρ K (peer c i, kR i)); iexact HR
  iexact Hk

/-- The same for a copy whose operands and semaphores are written in another way. -/
theorem wp_copy_at (c n : Dev nD) (i : Fin 3) (hn : n = peer c i) (src dst : Memref sig .tc .vmem S8x2048 .f32) (sS sR : DmaSem sig)
    (es : src = slotM 0) (ed : dst = slotM i.succ) (eS : sS = sendS i) (eR : sR = recvS i) {hsc : dst.view.ref.isScScratch = false}
    {hsrc : src.view.WordExact} {hdst : dst.view.WordExact}
    {hsem : DmaTarget.Typed .vmem (.dma sR) (.remote (Dev.tc n : Thread nD τ) dst (.dma sS) hsc)}
    {fs : S4x8x2048.Idx → Elt F .f32} (hfs : Stat 0 fs (stats m ρ c)) (O : CellTallies nD τ sig Unit) (W : Waits sig Unit)
    {α : Type} {Q : α → sProp 𝕄} {k : PUnit → Prog (TpuEff nD τ sig (Elt F) Λ₀ .tc) α} :
    iprop(records m ρ K ∗ slotPts c 0 (Ring.shares3 fullShare i) fs ∗ barPay c i
        ∗ owes (c : Thread nD τ) (O + tallyAt (recvCell (peer c i) i) () N) W
        ∗ dutyTok ER (sendCell c i) 0 i ∗ dutyTok ER (recvCell (peer c i) i) 0 i)
      ⊢ iprop(((cred (tallyAt (sendCell c i) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst es ed eS eR
  exact wp_copy m ρ K c n i hn hfs O W

/-- The wait for the reading of copy `i`: the lent third of slot 0 is back. -/
theorem wp_sent (c : Dev nD) (i : Fin 3) (src dst : Memref sig .tc .vmem S8x2048 .f32) (hN : dst.view.dmaCredit = N) (W : Waits sig Unit)
    {hs : src.view.WordExact} {hd : dst.view.WordExact}
    {α : Type} {Q : α → sProp 𝕄} {k : PUnit → Prog (TpuEff nD τ sig (Elt F) Λ₀ .tc) α} :
    iprop(records m ρ K ∗ cred (tallyAt (sendCell c i) () N) ∗ owes (c : Thread nD τ) 0 W ∗ atPos ER (sendCell c i) 0 ∅ 0)
      ⊢ iprop(((owes (c : Thread nD τ) 0 (insert (SemLoc.dma (sendS i), ()) W) ∗ atPos ER (sendCell c i) (0 + 1) ∅ 0 ∗ sendPay m ρ c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) src dst hs hd) k) Q) := by
  iintro ⟨#HR, Hc, HO, Hat⟩ Hk
  iapply (Rounds.wp_wait_rest_token 𝒱₀ ER (ringRd m ρ) (c : Thread nD τ) none (κ := K (c, kS i))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_at m ρ K (c, kS i)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m ρ c i)) $$ Hpay
  iapply Hk
  isplitl [HO]; · iexact HO
  isplitl [Hat]; · iexact Hat
  iexact Hp

/-- The wait for the landing of copy `i` from another device: slot `i + 1` with that device's statistics. -/
theorem wp_landed (c : Dev nD) (i : Fin 3) (src dst : Memref sig .tc .vmem S8x2048 .f32) (hN : dst.view.dmaCredit = N) (W : Waits sig Unit)
    {hs : src.view.WordExact} {hd : dst.view.WordExact}
    {α : Type} {Q : α → sProp 𝕄} {k : PUnit → Prog (TpuEff nD τ sig (Elt F) Λ₀ .tc) α} :
    iprop(records m ρ K ∗ cred (tallyAt (recvCell c i) () N) ∗ owes (c : Thread nD τ) 0 W ∗ atPos ER (recvCell c i) 0 ∅ 0)
      ⊢ iprop(((owes (c : Thread nD τ) 0 (insert (SemLoc.dma (recvS i), ()) W) ∗ atPos ER (recvCell c i) (0 + 1) ∅ 0 ∗ recvPay m ρ c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) src dst hs hd) k) Q) := by
  iintro ⟨#HR, Hc, HO, Hat⟩ Hk
  iapply (Rounds.wp_wait_rest_token 𝒱₀ ER (ringRd m ρ) (c : Thread nD τ) none (κ := K (c, kR i))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_at m ρ K (c, kR i)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c i)) $$ Hpay
  iapply Hk
  isplitl [HO]; · iexact HO
  isplitl [Hat]; · iexact Hat
  iexact Hp

/-- A cell whose one round is over closes: its counter is zero and the device's again. -/
theorem close (c : Dev nD) (k : Kx) :
    iprop(records m ρ K ∗ atPos ER (kcell (c, k)) (0 + 1) ∅ 0) ⊢ |={Set.univ}=> semVal (kcell (c, k)) 0 := by
  iintro ⟨#HR, Hat⟩
  imod (Rounds.cell_close ER (ringRd m ρ) (Set.mem_univ (K (c, k))) (fun h => h) (R := 0 + 1) (duties_later m ρ (kcell (c, k)))) $$ [Hat] with Hz
  · isplitr; · iapply (inv_at m ρ K (c, k)); iexact HR
    iexact Hat
  imodintro
  iexact Hz

omit [FloatOps F] in
/-- Slot 0 in three thirds, one for each copy. -/
theorem lend (c : Dev nD) (f : S4x8x2048.Idx → Elt F .f32) :
    slotPts c 0 fullShare f ⊢ (iprop(slotPts c 0 (Ring.shares3 fullShare 0) f ∗ slotPts c 0 (Ring.shares3 fullShare 1) f
        ∗ slotPts c 0 (Ring.shares3 fullShare 2) f) : sProp 𝕄) := by
  unfold slotPts
  exact (Ring.pointsTo_thirds (ℓ := (slotM 0).view.loc (c : Thread nD τ)) (I := (slotM 0).view.set) fullShare f).1

omit [FloatOps F] in
/-- The three thirds of slot 0, returned at contents known only to hold the statistics, are slot 0 whole again. -/
theorem rejoin (c : Dev nD) (p : S1x2x2048.Idx → Elt F .f32) :
    iprop((∃ f, ⌜Stat 0 f p⌝ ∗ slotPts c 0 (Ring.shares3 fullShare 0) f) ∗ (∃ f, ⌜Stat 0 f p⌝ ∗ slotPts c 0 (Ring.shares3 fullShare 1) f)
        ∗ (∃ f, ⌜Stat 0 f p⌝ ∗ slotPts c 0 (Ring.shares3 fullShare 2) f))
      ⊢ (iprop(∃ f, ⌜Stat 0 f p⌝ ∗ slotPts c 0 fullShare f) : sProp 𝕄) := by
  unfold slotPts
  iintro ⟨⟨%f0, %h0, H0⟩, ⟨%f1, -, H1⟩, ⟨%f2, -, H2⟩⟩
  ihave %h01 := pointsTo_agree $$ [H0 H1]
  · isplitl [H0] <;> iassumption
  ihave %h02 := pointsTo_agree $$ [H0 H2]
  · isplitl [H0] <;> iassumption
  ihave H1' := (Entails.of_eq (pointsTo_congr (g := f0) fun i hi => (h01 i (Finset.mem_inter.mpr ⟨hi, hi⟩)).1.symm)) $$ H1
  ihave H2' := (Entails.of_eq (pointsTo_congr (g := f0) fun i hi => (h02 i (Finset.mem_inter.mpr ⟨hi, hi⟩)).1.symm)) $$ H2
  iexists f0
  isplitr; · (ipureintro; exact h0)
  iapply (Ring.pointsTo_thirds fullShare f0).2
  isplitl [H0]; · iexact H0
  isplitl [H1'] <;> iassumption

/-- A load of row `r` of a slot that holds the statistics `p`. -/
theorem wp_row (c : Dev nD) (d : Fin 4) (r : Fin 2) {f : S4x8x2048.Idx → Elt F .f32} {p : S1x2x2048.Idx → Elt F .f32} (h : Stat d f p)
    {hl : commM.view.LoadsAt (rowR d r).toLoadRect}
    {α : Type} {Q : α → sProp 𝕄} {k : Vec F S1x1x2048 .f32 → Prog (TpuEff nD τ sig (Elt F) Λ₀ .tc) α} :
    slotPts c d fullShare f
      ⊢ iprop((slotPts c d fullShare f -∗ wp frame (wpE (defs₀ (F := F)) 𝒱₀ (c : Thread nD τ) none) Set.univ (k (rowOf p r)) Q) -∗ wp frame (wpE (defs₀ (F := F)) 𝒱₀ (c : Thread nD τ) none) Set.univ (.op (.load commM (rowR d r).toLoadRect hl) k) Q) := by
  unfold slotPts
  iintro H Hk
  iapply (wp_load 𝒱₀ (c : Thread nD τ) none Set.univ (m := commM) (row_sub d r)) $$ H
  iintro H
  rw [stat_load h r]
  iapply Hk; iexact H

end Steps

end Cert.KernelIdeal.Exchange

end
-- ==== Proof.RunI.lean ====
/-
# The kernel body from its first effect to its last (kernel at ideal values)

The steps put together in program order, and the result in the form the pipeline asks for.
-/
module

public import proofs.«01_k».proof.Proof.BodyI

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole-block loads and stores -/

/-- The rectangle of a whole block. -/
abbrev wholeR : Rect S2048x2048 := Rect.unit (s := S2048x2048) ![0, 0] S2048x2048.size inb_S2048x2048_S2048x2048_0_0

theorem zero2 : (![0, 0] : Fin 2 → ℕ) = fun _ => 0 := funext fun a => match a with | ⟨0, _⟩ => rfl | ⟨1, _⟩ => rfl

omit [FloatOps F] in
theorem load_x (f : (cc0_stg0_0 : Ref sig .tc).ty.Contents (Elt F)) : xM.view.readAt (Elt F) wholeR.toLoadRect f = f :=
  Memref.readAt_unit_zero (Elt F) cc0_stg0_0 zero2 _ f
omit [FloatOps F] in
theorem load_o (f : (cc0_stg1_0 : Ref sig .tc).ty.Contents (Elt F)) : oM.view.readAt (Elt F) wholeR.toLoadRect f = f :=
  Memref.readAt_unit_zero (Elt F) cc0_stg1_0 zero2 _ f
omit [FloatOps F] in
theorem store_o (f w : (cc0_stg1_0 : Ref sig .tc).ty.Contents (Elt F)) :
    (oM.access wholeR : View sig .tc _ _ _).write (Elt F) f w Finset.univ = w :=
  Memref.write_access_unit_zero_univ (Elt F) cc0_stg1_0 zero2 _ f w

/-- The rectangle the statistics are stored in. -/
abbrev statR : Rect S4x8x2048 := Rect.unit (s := S4x8x2048) ![0, 0, 0] S1x2x2048.size inb_S4x8x2048_S1x2x2048_0_0_0

/-- The load that precedes the store of the statistics: what it yields is not used. -/
theorem wp_stat_load (c : Dev nD) (f : S4x8x2048.Idx → Elt F .f32) {hl : commM.view.LoadsAt statR.toLoadRect}
    {α : Type} {Q : α → sProp 𝕄} {k : Vec F S1x2x2048 .f32 → Prog (TpuEff nD τ sig (Elt F) Λ₀ .tc) α} :
    slotPts c 0 fullShare f
      ⊢ iprop((slotPts c 0 fullShare f -∗ wp frame (wpE (defs₀ (F := F)) 𝒱₀ (c : Thread nD τ) none) Set.univ (k (commM.view.readAt (Elt F) statR.toLoadRect f)) Q)
          -∗ wp frame (wpE (defs₀ (F := F)) 𝒱₀ (c : Thread nD τ) none) Set.univ (.op (.load commM statR.toLoadRect hl) k) Q) := by
  unfold slotPts
  exact wp_load 𝒱₀ (c : Thread nD τ) none Set.univ (m := commM) (stat_load_sub _)

/-- The store of statistics `p`: slot 0 holds them after it. -/
theorem wp_stat_store (c : Dev nD) (f : S4x8x2048.Idx → Elt F .f32) (p : Vec F S1x2x2048 .f32)
    {hs : (commM.access statR).Stores Finset.univ} {hc}
    {α : Type} {Q : α → sProp 𝕄} {k : PUnit → Prog (TpuEff nD τ sig (Elt F) Λ₀ .tc) α} :
    slotPts c 0 fullShare f
      ⊢ iprop((∀ g, ⌜Stat 0 g p⌝ -∗ slotPts c 0 fullShare g -∗ wp frame (wpE (defs₀ (F := F)) 𝒱₀ (c : Thread nD τ) none) Set.univ (k ⟨⟩) Q)
          -∗ wp frame (wpE (defs₀ (F := F)) 𝒱₀ (c : Thread nD τ) none) Set.univ (.op (.store commM statR p Finset.univ hs hc) k) Q) := by
  unfold slotPts
  iintro H Hk
  iapply (wp_store 𝒱₀ (c : Thread nD τ) none Set.univ (m := commM) (r := statR) (w := p) (Mk := Finset.univ) (hx := hs) (hm := hc) (k := k)
    (f := f) (S := (slotM 0).view.set) (stat_sub _)) $$ [H]
  · iexact H
  iintro H
  ispecialize Hk $$ %((commM.access statR : View sig .tc _ _ _).write (Elt F) f p Finset.univ)
  iapply Hk
  · ipureintro; exact stat_store f p _
  iexact H

/-- A staging buffer of device `c`, whole, at contents `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body runs from. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What it leaves. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

set_option maxHeartbeats 4000000 in
/-- The body of device `c` runs from the one to the other. -/
theorem sound_body (c : Dev nD) :
    bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c) := by
  rw [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre Φ₀ start ghost linear payToks credits stg
  rw [slots_eq]
  simp only [bigSep_fin3]
  iintro ⟨⟨⟨⟨%K, #HR, ⟨HaB, ⟨HaS0, HaS1, HaS2⟩, HaR0, HaR1, HaR2⟩, ⟨HtB0, HtB1, HtB2⟩, ⟨HtS0, HtS1, HtS2⟩, HtR0, HtR1, HtR2⟩, ⟨HcB, HcR0, HcR1, HcR2⟩, #Hlev⟩,
    ⟨%f0, H0⟩, H1, H2, H3⟩, Ho, ⟨%d0, %g0, %hg0, Hx⟩, ⟨%d1, %g1, %hg1, Hout⟩⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  unfold O₀
  -- the signals
  iapply (wp_sig m ρ K c _ 0 (dev1_eq c) _ W) $$ [H3 HO HtB0]
  · isplitr; · iexact HR
    isplitl [H3]; · iexact H3
    isplitl [HO] <;> iassumption
  iintro HO
  iapply (wp_sig m ρ K c _ 1 (dev2_eq c) _ W) $$ [H2 HO HtB1]
  · isplitr; · iexact HR
    isplitl [H2]; · iexact H2
    isplitl [HO] <;> iassumption
  iintro HO
  iapply (wp_sig m ρ K c _ 2 (dev3_eq c) _ W) $$ [H1 HO HtB2]
  · isplitr; · iexact HR
    isplitl [H1]; · iexact H1
    isplitl [HO] <;> iassumption
  iintro HO
  iapply (wp_bar m ρ K c W) $$ [HcB HO HaB]
  · isplitr; · iexact HR
    isplitr; · iexact Hlev
    isplitl [HcB]; · iexact HcB
    isplitl [HO] <;> iassumption
  iintro ⟨HO, HaB, Hb0, Hb1, Hb2⟩
  -- the exponentials and the statistics
  iapply (wp_load 𝒱₀ (c : Thread nD τ) none Set.univ (m := xM) (Finset.subset_univ _)) $$ Hx; iintro Hx
  rw [load_x]
  iapply (wp_load 𝒱₀ (c : Thread nD τ) none Set.univ (m := oM) (Finset.subset_univ _)) $$ Hout; iintro Hout
  iapply (wp_store 𝒱₀ (c : Thread nD τ) none Set.univ (m := oM) (r := wholeR) (Mk := Finset.univ) (Finset.subset_univ _)) $$ Hout; iintro Hout
  rw [store_o]
  iapply (wp_stat_load c f0) $$ H0; iintro H0
  iapply (wp_stat_store c f0 (stats m ρ c)) $$ H0; iintro %fs %hfs H0
  -- the copies
  ihave H0 := (lend c fs) $$ H0
  icases H0 with ⟨Ht0, Ht1, Ht2⟩
  unfold OR
  iapply (wp_copy_at m ρ K c _ 0 (dev4_eq c) _ _ _ _ rfl rfl rfl rfl hfs _ _) $$ [Ht0 Hb0 HO HtS0 HtR0]
  · isplitr; · iexact HR
    isplitl [Ht0]; · iexact Ht0
    isplitl [Hb0]; · iexact Hb0
    isplitl [HO]; · iexact HO
    isplitl [HtS0] <;> iassumption
  iintro ⟨HcS0, HO⟩
  iapply (wp_copy_at m ρ K c _ 1 (dev5_eq c) _ _ _ _ rfl rfl rfl rfl hfs _ _) $$ [Ht1 Hb1 HO HtS1 HtR1]
  · isplitr; · iexact HR
    isplitl [Ht1]; · iexact Ht1
    isplitl [Hb1]; · iexact Hb1
    isplitl [HO]; · iexact HO
    isplitl [HtS1] <;> iassumption
  iintro ⟨HcS1, HO⟩
  iapply (wp_copy_at m ρ K c _ 2 (dev6_eq c) _ _ _ _ rfl rfl rfl rfl hfs _ _) $$ [Ht2 Hb2 HO HtS2 HtR2]
  · isplitr; · iexact HR
    isplitl [Ht2]; · iexact Ht2
    isplitl [Hb2]; · iexact Hb2
    isplitl [HO]; · iexact HO
    isplitl [HtS2] <;> iassumption
  iintro ⟨HcS2, HO⟩
  -- the waits
  iapply (wp_sent m ρ K c 0 _ _ (credit_eq 0) _) $$ [HcS0 HO HaS0]
  · isplitr; · iexact HR
    isplitl [HcS0]; · iexact HcS0
    isplitl [HO] <;> iassumption
  iintro ⟨HO, HaS0, Ht0⟩
  iapply (wp_sent m ρ K c 1 _ _ (credit_eq 0) _) $$ [HcS1 HO HaS1]
  · isplitr; · iexact HR
    isplitl [HcS1]; · iexact HcS1
    isplitl [HO] <;> iassumption
  iintro ⟨HO, HaS1, Ht1⟩
  iapply (wp_sent m ρ K c 2 _ _ (credit_eq 0) _) $$ [HcS2 HO HaS2]
  · isplitr; · iexact HR
    isplitl [HcS2]; · iexact HcS2
    isplitl [HO] <;> iassumption
  iintro ⟨HO, HaS2, Ht2⟩
  iapply (wp_landed m ρ K c 0 _ _ (credit_eq 1) _) $$ [HcR0 HO HaR0]
  · isplitr; · iexact HR
    isplitl [HcR0]; · iexact HcR0
    isplitl [HO] <;> iassumption
  iintro ⟨HO, HaR0, H1⟩
  iapply (wp_landed m ρ K c 1 _ _ (credit_eq 2) _) $$ [HcR1 HO HaR1]
  · isplitr; · iexact HR
    isplitl [HcR1]; · iexact HcR1
    isplitl [HO] <;> iassumption
  iintro ⟨HO, HaR1, H2⟩
  iapply (wp_landed m ρ K c 2 _ _ (credit_eq 3) _) $$ [HcR2 HO HaR2]
  · isplitr; · iexact HR
    isplitl [HcR2]; · iexact HcR2
    isplitl [HO] <;> iassumption
  iintro ⟨HO, HaR2, H3⟩
  -- slot 0 whole again, the cells closed
  ihave H0 := (rejoin c (stats m ρ c)) $$ [Ht0 Ht1 Ht2]
  · unfold sendPay
    isplitl [Ht0]; · iexact Ht0
    isplitl [Ht1] <;> iassumption
  unfold recvPay
  icases H0 with ⟨%g0, %e0, H0⟩
  icases H1 with ⟨%g1, %e1, H1⟩
  icases H2 with ⟨%g2, %e2, H2⟩
  icases H3 with ⟨%g3, %e3, H3⟩
  iapply (wp_row c 0 0 e0) $$ H0; iintro H0
  iapply (wp_row c (Fin.succ 0) 0 e1) $$ H1; iintro H1
  iapply (wp_row c (Fin.succ 1) 0 e2) $$ H2; iintro H2
  iapply (wp_row c (Fin.succ 2) 0 e3) $$ H3; iintro H3
  iapply (wp_row c 0 1 e0) $$ H0; iintro H0
  iapply (wp_row c 0 0 e0) $$ H0; iintro H0
  iapply (wp_row c (Fin.succ 0) 1 e1) $$ H1; iintro H1
  iapply (wp_row c (Fin.succ 0) 0 e1) $$ H1; iintro H1
  iapply (wp_row c (Fin.succ 1) 1 e2) $$ H2; iintro H2
  iapply (wp_row c (Fin.succ 1) 0 e2) $$ H2; iintro H2
  iapply (wp_row c (Fin.succ 2) 1 e3) $$ H3; iintro H3
  iapply (wp_row c (Fin.succ 2) 0 e3) $$ H3; iintro H3
  iapply (wp_load 𝒱₀ (c : Thread nD τ) none Set.univ (m := oM) (Finset.subset_univ _)) $$ Hout; iintro Hout
  rw [load_o]
  iapply (wp_load 𝒱₀ (c : Thread nD τ) none Set.univ (m := oM) (Finset.subset_univ _)) $$ Hout; iintro Hout
  iapply (wp_store 𝒱₀ (c : Thread nD τ) none Set.univ (m := oM) (r := wholeR) (Mk := Finset.univ) (Finset.subset_univ _)) $$ Hout; iintro Hout
  rw [store_o, wp_ret]
  imod (close m ρ K c kB) $$ [HaB] with HzB
  · isplitr; · iexact HR
    iexact HaB
  imod (close m ρ K c (kS 0)) $$ [HaS0] with HzS0
  · isplitr; · iexact HR
    iexact HaS0
  imod (close m ρ K c (kS 1)) $$ [HaS1] with HzS1
  · isplitr; · iexact HR
    iexact HaS1
  imod (close m ρ K c (kS 2)) $$ [HaS2] with HzS2
  · isplitr; · iexact HR
    iexact HaS2
  imod (close m ρ K c (kR 0)) $$ [HaR0] with HzR0
  · isplitr; · iexact HR
    iexact HaR0
  imod (close m ρ K c (kR 1)) $$ [HaR1] with HzR1
  · isplitr; · iexact HR
    iexact HaR1
  imod (close m ρ K c (kR 2)) $$ [HaR2] with HzR2
  · isplitr; · iexact HR
    iexact HaR2
  imodintro
  unfold bodyPost Φ₁ Dat.owesAt Pipeline.owesWithin stg
  rw [show (dats m ρ 0 c).owed t0_0.succ = 0 from rfl, slots_eq]
  simp only [bigSep_fin3]
  isplitl [H0 H1 H2 H3 HzB HzS0 HzS1 HzS2 HzR0 HzR1 HzR2]
  · isplitl [H0 H1 H2 H3]
    · isplitl [H0]; · iexists _; iexact H0
      isplitl [H1]; · iexists _; iexact H1
      isplitl [H2]; · iexists _; iexact H2
      iexists _; iexact H3
    isplitl [HzB]; · iexact HzB
    isplitl [HzS0 HzS1 HzS2]
    · isplitl [HzS0]; · iexact HzS0
      isplitl [HzS1] <;> iassumption
    isplitl [HzR0]; · iexact HzR0
    isplitl [HzR1] <;> iassumption
  isplitl [HO]
  · iexists (insert (SemLoc.dma (recvS 2), ()) (insert (SemLoc.dma (recvS 1), ()) (insert (SemLoc.dma (recvS 0), ()) (insert (SemLoc.dma (sendS 2), ()) (insert (SemLoc.dma (sendS 1), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

/-- The pipeline's obligation for the body, on every device. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  exact sound_body m ρ c

end Cert.KernelIdeal.Exchange

end
-- ==== Proof.LaunchI.lean ====
/-
# From the launch to the final memory (kernel at ideal values)

The schedule's resources dealt to the devices, the barrier and the six other cells of each opened, each device's duties handed to
the device that pays them; the scratch buffer as its four slots; then the pipeline's launch theorem.
-/
module

public import proofs.«01_k».proof.Proof.RunI
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The scratch buffer and its slots -/

/-- The elements of slot `d`. -/
def slotSet (d : Fin 4) : Finset S4x8x2048.Idx := (slotR d).set

theorem slot_disjoint (d d' : Fin 4) (h : d ≠ d') : Disjoint (slotSet d) (slotSet d') :=
  Ring.lead_disjoint (s := S4x8x2048) (NB := 4) 0 1 (fun d => ![d.val, 0, 0]) S1x8x2048.size slot_inb (by decide) (by decide) d d' h

theorem slot_cover : Finset.univ.biUnion slotSet = Finset.univ :=
  Ring.lead_cover (s := S4x8x2048) (NB := 4) 0 1 (fun d => ![d.val, 0, 0]) S1x8x2048.size slot_inb (by decide) (by decide) (by decide)
    (by decide) (by decide)

omit [FloatOps F] in
theorem slots_sets (c : Dev nD) : (slots c : sProp 𝕄)
    = bigSep Finset.univ fun d : Fin 4 => iprop(∃ f : Buf (Elt F) ((c : Thread nD τ).loc cc0_scratch0), ((c : Thread nD τ).loc cc0_scratch0) ↦[slotSet d]{fullShare} f) := by
  unfold slots slotPts slotSet
  exact bigSep_congr fun d _ => by rw [slot_set]; rfl

omit [FloatOps F] in
/-- The scratch buffer whole is its four slots, -/
theorem slots_intro (c : Dev nD) (f : Buf (Elt F) ((c : Thread nD τ).loc cc0_scratch0)) :
    (((c : Thread nD τ).loc cc0_scratch0) ↦{fullShare} f) ⊢ (slots c : sProp 𝕄) := by
  rw [Ring.pointsTo_blocks (ℓ := (c : Thread nD τ).loc cc0_scratch0) slotSet slot_disjoint slot_cover, slots_sets]
  exact bigSep_mono fun d _ => show (((c : Thread nD τ).loc cc0_scratch0) ↦[slotSet d]{fullShare} f)
      ⊢ (iprop(∃ f : Buf (Elt F) ((c : Thread nD τ).loc cc0_scratch0), ((c : Thread nD τ).loc cc0_scratch0) ↦[slotSet d]{fullShare} f) : sProp 𝕄) from by
    iintro H; iexists f; iexact H

omit [FloatOps F] in
/-- and the slots are the buffer whole again. -/
theorem slots_elim (c : Dev nD) (f₀ : Buf (Elt F) ((c : Thread nD τ).loc cc0_scratch0)) :
    (slots c : sProp 𝕄) ⊢ iprop(∃ f : Buf (Elt F) ((c : Thread nD τ).loc cc0_scratch0), ((c : Thread nD τ).loc cc0_scratch0) ↦{fullShare} f) := by
  rw [slots_sets]
  exact Ring.pointsTo_blocks_join_exists (ℓ := (c : Thread nD τ).loc cc0_scratch0) slotSet slot_disjoint slot_cover f₀

/-! ## The cells and the duties, dealt -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Kx → SemLoc sig) := by decide

theorem kcell_injective : Function.Injective (kcell : Dev nD × Kx → GSem nD τ sig) := fun a b h =>
  Prod.ext (congrArg (fun g : GSem nD τ sig => g.1.1) h) (csem_injective (congrArg Prod.snd h))

/-- All cells of the exchange. -/
def allCells : Finset (GSem nD τ sig) := Finset.univ.map ⟨kcell, kcell_injective⟩

/-- Which duty of a device's cells: of the barrier three, of each send and receive semaphore its one. -/
abbrev Tx : Type := Fin 3 ⊕ (Fin 3 ⊕ Fin 3)
/-- The cell of a duty, and the duty's name there. -/
abbrev dutyAt : Tx → Kx × Fin 3 := fun | .inl i => (kB, i) | .inr (.inl i) => (kS i, i) | .inr (.inr i) => (kR i, i)
theorem dutyAt_injective : Function.Injective dutyAt := by decide
abbrev dutyOf (ct : Dev nD × Tx) : GSem nD τ sig × ℕ × Fin 3 := (kcell (ct.1, (dutyAt ct.2).1), 0, (dutyAt ct.2).2)
theorem dutyOf_injective : Function.Injective (dutyOf : Dev nD × Tx → GSem nD τ sig × ℕ × Fin 3) := fun a b h => by
  have h1 := kcell_injective (congrArg (fun x : GSem nD τ sig × ℕ × Fin 3 => x.1) h)
  exact Prod.ext (congrArg (fun ck : Dev nD × Kx => ck.1) h1) (dutyAt_injective (Prod.ext (congrArg (fun ck : Dev nD × Kx => ck.2) h1) (congrArg (fun x : GSem nD τ sig × ℕ × Fin 3 => x.2.2) h)))
/-- All duties of the exchange. -/
def allDuties : Finset (GSem nD τ sig × ℕ × Fin 3) := Finset.univ.map ⟨dutyOf, dutyOf_injective⟩

/-- The resources at launch: the pipeline's and the exchange's. -/
def u₀ : UU := (initOf (Pipeline.cells cfgs cellOf_inj) (Pipeline.launchToks cfgs cellOf_inj), initOf allCells allDuties)

/-- The duties of device `c`'s own cells. -/
def toks (c : Dev nD) : sProp 𝕄 :=
  iprop((bigSep Finset.univ fun i : Fin 3 => dutyTok ER (barCell c) 0 i) ∗ (bigSep Finset.univ fun i : Fin 3 => dutyTok ER (sendCell c i) 0 i)
    ∗ bigSep Finset.univ fun i : Fin 3 => dutyTok ER (recvCell c i) 0 i)

/-- What each device is dealt of the exchange's resources at launch. -/
def G (c : Dev nD) : sProp 𝕄 :=
  iprop((bigSep Finset.univ fun k : Kx => roundState ER (ringRd m ρ) (kcell (c, k)) 0)
    ∗ (bigSep Finset.univ fun k : Kx => iprop(atPos ER (kcell (c, k)) 0 ∅ 0 ∗ reached ER (kcell (c, k)) 0)) ∗ toks c)

/-- What it has of them once the cells are open. -/
def G' (c : Dev nD) : sProp 𝕄 := iprop(∃ K, ghost m ρ K c)

omit [FloatOps F] in
theorem bigSep_kx (Φ : Kx → sProp 𝕄) : bigSep Finset.univ Φ
    = iprop(Φ kB ∗ (bigSep Finset.univ fun i => Φ (kS i)) ∗ bigSep Finset.univ fun i => Φ (kR i)) := by
  rw [bigSep_univ_sum, bigSep_univ_sum, bigSep_univ_eq_bigSepL [()] (by decide) (by decide)]
  rfl

theorem fund_ring : BI.own (ER (initOf allCells allDuties)) ⊢ (|==> bigSep Finset.univ (G m ρ) : sProp 𝕄) := by
  have hX (Φ : GSem nD τ sig → sProp 𝕄) : bigSep allCells Φ = bigSep Finset.univ fun c : Dev nD => bigSep Finset.univ fun k : Kx => Φ (kcell (c, k)) := by
    unfold allCells; rw [bigSep_map, bigSep_univ_prod]; rfl
  have hT : bigSep allDuties (fun x => (dutyTok ER x.1 x.2.1 x.2.2 : sProp 𝕄)) = bigSep Finset.univ fun c : Dev nD => toks c := by
    unfold allDuties; rw [bigSep_map, bigSep_univ_prod]
    exact bigSep_congr fun c _ => by unfold toks; rw [bigSep_univ_sum, bigSep_univ_sum]; rfl
  iintro HX
  imod (Rounds.fund ER (ringRd m ρ) allCells allDuties) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun i : Fin 3 => semVal (sendCell c i) 0) ∗ bigSep Finset.univ fun i : Fin 3 => semVal (recvCell c i) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores of a device at zero are its seven cells at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kx => semVal (kcell (c, k)) 0 : sProp 𝕄) := by
  rw [ownSems0_eq, unscopedSems0_eq, bigSep_kx]
  iintro ⟨⟨HS, HV⟩, HB⟩
  isplitl [HB]; · iexact HB
  isplitl [HS] <;> iassumption

/-- Every cell of a device opened. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kx => semVal (kcell (c, k)) 0) ∗ bigSep Finset.univ fun k : Kx => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A separating conjunction over devices and numbers, each number's devices shifted by that number's step. -/
theorem bigSep_step (Φ : Fin 3 → Dev nD → sProp 𝕄) :
    (bigSep Finset.univ fun c : Dev nD => bigSep Finset.univ fun i : Fin 3 => Φ i c)
      = bigSep Finset.univ fun c : Dev nD => bigSep Finset.univ fun i : Fin 3 => Φ i (peer c i) := by
  rw [bigSep_univ_comm, bigSep_univ_comm (fun c i => Φ i (peer c i))]
  exact bigSep_congr fun i _ => bigSep_univ_equiv (step i) (Φ i)

omit [FloatOps F] in
/-- The duties handed around: what device `c` pays are a signal to each other device's barrier, its own send semaphores, and a landing at
    each other device. -/
theorem toks_around : (bigSep Finset.univ fun c : Dev nD => (toks c : sProp 𝕄)) ⊢ bigSep Finset.univ fun c : Dev nD => payToks c := by
  unfold toks payToks
  simp only [bigSep_sep']
  rw [show (bigSep Finset.univ fun c : Dev nD => bigSep Finset.univ fun i : Fin 3 => (dutyTok ER (barCell c) 0 i : sProp 𝕄))
      = bigSep Finset.univ fun c : Dev nD => bigSep Finset.univ fun i : Fin 3 => dutyTok ER (barCell (peer c i)) 0 i.rev from by
        rw [← bigSep_step (fun i c => (dutyTok ER (barCell c) 0 i.rev : sProp 𝕄))]
        exact bigSep_congr fun c _ => bigSep_univ_equiv Fin.revPerm _,
    bigSep_step (fun i c => (dutyTok ER (recvCell c i) 0 i : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The open cells and the positions of all devices, each device given the records of all and its own positions and duties. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kx => iprop(∃ κ : ℕ, cellInv ER (ringRd m ρ) κ (kcell ck))),
    bigSep_congr (s := Finset.univ) (fun (c : Dev nD) _ => bigSep_sep' Finset.univ (fun k : Kx => (atPos ER (kcell (c, k)) 0 ∅ 0 : sProp 𝕄)) (fun k => reached ER (kcell (c, k)) 0)),
    bigSep_sep', ← bigSep_univ_prod (fun ck : Dev nD × Kx => (reached ER (kcell ck) 0 : sProp 𝕄))]
  iintro ⟨HI, ⟨Hat, #HR⟩, Htok⟩
  ihave HK := (BI.bigSep_exists_pi Finset.univ (fun (ck : Dev nD × Kx) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) (Φ := linear) fun c _ => by
    show iprop(records m ρ K ∗ linear c) ⊢ iprop(∃ K, ghost m ρ K c)
    iintro H; iexists K; unfold ghost; iexact H)
  isplitr
  · unfold records; isplitl; · iexact HI
    iexact HR
  · iapply ((Entails.of_eq (bigSep_sep' Finset.univ (fun c : Dev nD => bigSep Finset.univ fun k : Kx => (atPos ER (kcell (c, k)) 0 ∅ 0 : sProp 𝕄)) payToks).symm).trans
      (bigSep_mono fun c _ => show _ ⊢ linear c from Entails.of_eq (by unfold linear; rw [bigSep_kx])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the devices owe one another at launch -/

/-- The `i`-th signal of device `d` goes to `c` exactly if `d` is `i + 1` places before `c`, -/
theorem bar_iff (d c : Dev nD) (i : Fin 3) : (barCell c = barCell (peer d i) ∧ () = ()) ↔ d = from' c i := by
  constructor
  · rintro ⟨h, -⟩
    rw [show c = peer d i from congrArg (fun g : GSem nD τ sig => g.1.1) h, from_peer]
  · rintro rfl; rw [peer_from]; exact ⟨rfl, rfl⟩
/-- and so the `j`-th copy of `d` if besides the numbers agree. -/
theorem recv_iff (d c : Dev nD) (i j : Fin 3) : (recvCell c i = recvCell (peer d j) j ∧ () = ()) ↔ (i = j ∧ d = from' c i) := by
  constructor
  · rintro ⟨h, -⟩
    obtain rfl := recv_inj _ _ (congrArg Prod.snd h)
    rw [show c = peer d i from congrArg (fun g : GSem nD τ sig => g.1.1) h, from_peer]; exact ⟨rfl, rfl⟩
  · rintro ⟨rfl, rfl⟩; rw [peer_from]; exact ⟨rfl, rfl⟩

theorem tally_bar_bar (d c : Dev nD) (i : Fin 3) : (tallyAt (barCell (peer d i)) () 1 : CellTallies nD τ sig Unit) (barCell c) () = if d = from' c i then 1 else 0 := by
  rw [tallyAt_apply]; exact if_congr (bar_iff d c i) rfl rfl
theorem tally_bar_recv (d c : Dev nD) (i j : Fin 3) : (tallyAt (barCell (peer d j)) () 1 : CellTallies nD τ sig Unit) (recvCell c i) () = 0 := by
  rw [tallyAt_apply]; exact if_neg fun h => recv_ne_bar i (congrArg Prod.snd h.1)
theorem tally_recv_bar (d c : Dev nD) (j : Fin 3) : (tallyAt (recvCell (peer d j) j) () N : CellTallies nD τ sig Unit) (barCell c) () = 0 := by
  rw [tallyAt_apply]; exact if_neg fun h => recv_ne_bar j (congrArg Prod.snd h.1).symm
theorem tally_recv_recv (d c : Dev nD) (i j : Fin 3) :
    (tallyAt (recvCell (peer d j) j) () N : CellTallies nD τ sig Unit) (recvCell c i) () = if i = j ∧ d = from' c i then N else 0 := by
  rw [tallyAt_apply]; exact if_congr (recv_iff d c i j) rfl rfl

/-- A barrier is owed one signal by each other device. -/
theorem owed_bar (d c : Dev nD) : O₀ d (barCell c) () = ∑ i : Fin 3, if d = from' c i then 1 else 0 := by
  unfold O₀ OR
  simp only [Pi.add_apply, Finsupp.add_apply, Pi.zero_apply, Finsupp.zero_apply, tally_bar_bar, Fin.sum_univ_three]
  rw [tally_recv_bar d c 0, tally_recv_bar d c 1, tally_recv_bar d c 2]
  omega
/-- A receive semaphore is owed one copy. -/
theorem owed_recv (d c : Dev nD) (i : Fin 3) : O₀ d (recvCell c i) () = if d = from' c i then N else 0 := by
  unfold O₀ OR
  simp only [Pi.add_apply, Finsupp.add_apply, Pi.zero_apply, Finsupp.zero_apply, tally_bar_recv]
  rw [tally_recv_recv d c i 0, tally_recv_recv d c i 1, tally_recv_recv d c i 2]
  generalize N = n
  fin_cases i <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => Finset.sum_ite_eq' Finset.univ (from' c i) fun _ => 1]
  simp
theorem launch_recv (c : Dev nD) (i : Fin 3) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (from' c i) fun _ => N, if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map ⟨fun i => SemLoc.dma (recvS i), fun i j h => recv_inj i j h⟩) fun x hx => ?_).trans ?_
  · obtain ⟨i, -, rfl⟩ := Finset.mem_map.mp hx
    exact Finset.mem_erase.mpr ⟨recv_ne_bar i, Finset.mem_univ _⟩
  · rw [bigSep_map]
    exact bigSep_mono fun i _ => Entails.of_eq (congrArg cred (launch_recv c i))

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iapply (slots_intro c f); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hs, HzB, HzS, HzR⟩
  isplitl [HzB]; · iexact HzB
  isplitl [HzS HzR]
  · isplitl [HzS] <;> iassumption
  iapply (slots_elim c (m ((c : Thread nD τ).loc cc0_scratch0))); iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

/-- Every window's array on every device is as the proof data say. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Launched on four devices with all counters zero, the kernel ends on every weakly fair schedule, each window's array as the proof data
    say and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run is as it was launched. -/
theorem finalA_x (c : Dev nD) : finalA m ρ c (0 : Fin 2) = m ((c : Thread nD τ).loc main_arg0) :=
  (dats (F := F) m ρ 0 c).arrAt_in (0 : Fin 2) rfl _

/-- Launched with any arguments, the kernel ends with every argument unchanged and every counter zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c 0).trans (finalA_x m ρ c), h.2⟩) (run_main m ρ)

end Cert.KernelIdeal.Exchange

end
-- ==== Proof.Softmax.lean ====
/- The mathematics of a softmax row that is cut into four blocks: over the extended reals, with every entry a real number, the
   block's own exponential times the factor that carries it to the whole row's maximum is the row's softmax. No program is mentioned. -/
module

public import Idealize.ShloMosaic.PureOps.Ideal.Laws

@[expose] public section

noncomputable section

namespace Cert.Softmax

open Idealize.ShloMosaic
open scoped BigOperators

/-- The whole row's column number of column `l` of block `d`. -/
def col (d : Fin 4) (l : Fin 2048) : Fin 8192 := ⟨d.val * 2048 + l.val, by omega⟩

/-- Every column of the row is one column of one block. -/
def cols : Fin 4 × Fin 2048 ≃ Fin 8192 where
  toFun p := col p.1 p.2
  invFun k := (⟨k.val / 2048, by omega⟩, ⟨k.val % 2048, by omega⟩)
  left_inv p := by
    obtain ⟨d, l⟩ := p
    have := d.isLt; have := l.isLt
    simp only [col, Prod.mk.injEq]
    exact ⟨Fin.ext (by show (d.val * 2048 + l.val) / 2048 = d.val; omega), Fin.ext (by show (d.val * 2048 + l.val) % 2048 = l.val; omega)⟩
  right_inv k := Fin.ext (by show k.val / 2048 * 2048 + k.val % 2048 = k.val; omega)

/-- A sum over the row is the sum over the blocks of the sums over their columns. -/
theorem sum_cols {M : Type} [AddCommMonoid M] (f : Fin 8192 → M) : ∑ k, f k = ∑ d : Fin 4, ∑ l : Fin 2048, f (col d l) :=
  (Equiv.sum_comp cols f).symm.trans (Fintype.sum_prod_type _)

/-- The row's supremum is the supremum over the blocks of their suprema. -/
theorem sup_cols (f : Fin 8192 → EReal) :
    (Finset.univ.sup fun k => f k) = Finset.univ.sup fun d : Fin 4 => Finset.univ.sup fun l : Fin 2048 => f (col d l) := by
  simp only [Finset.sup_univ_eq_iSup]
  rw [← Equiv.iSup_comp (g := f) cols, iSup_prod]
  rfl

/-- The supremum of finitely many real numbers, at least one, is a real number. -/
theorem sup_real {n : ℕ} (y : Fin (n + 1) → ℝ) : ∃ μ : ℝ, (Finset.univ.sup fun k => ((y k : ℝ) : EReal)) = μ := by
  obtain ⟨i, -, h⟩ := Finset.exists_mem_eq_sup Finset.univ Finset.univ_nonempty fun k => ((y k : ℝ) : EReal)
  exact ⟨y i, h⟩

/-- The exponential of a difference of real numbers. -/
theorem exp_sub_coe (a b : ℝ) : Ideal.exp ((a : EReal) - (b : EReal)) = ((Real.exp (a - b) : ℝ) : EReal) := by
  rw [← EReal.coe_sub]; rfl

/-- The quotient of real numbers, the divisor not zero. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A sum of real numbers taken over the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over the reals: exponentials taken below each block's own `μ d`, summed, and carried to a common `M`, add up to the
    exponentials taken below `M`. -/
theorem carried (y : Fin 4 → Fin 2048 → ℝ) (μ : Fin 4 → ℝ) (M : ℝ) :
    ∑ d, (∑ l, Real.exp (y d l - μ d)) * Real.exp (μ d - M) = ∑ d, ∑ l, Real.exp (y d l - M) := by
  refine Finset.sum_congr rfl fun d _ => ?_
  rw [Finset.sum_mul]
  refine Finset.sum_congr rfl fun l _ => ?_
  rw [← Real.exp_add]
  congr 1; ring

/-- A softmax entry from block statistics. For real entries `y`, any real numbers `μ d` taken off in each block and any real
    `M` taken off in the whole row: the block's exponential times the carrying factor over the carried sum is the softmax entry. -/
theorem entry (y : Fin 4 → Fin 2048 → ℝ) (μ : Fin 4 → ℝ) (M : ℝ) (c : Fin 4) (l : Fin 2048) :
    Ideal.exp ((y c l : EReal) - (μ c : EReal)) * Ideal.div (Ideal.exp ((μ c : EReal) - (M : EReal)))
        (∑ d, (∑ k, Ideal.exp ((y d k : EReal) - (μ d : EReal))) * Ideal.exp ((μ d : EReal) - (M : EReal)))
      = Ideal.div (Ideal.exp ((y c l : EReal) - (M : EReal))) (∑ d, ∑ k, Ideal.exp ((y d k : EReal) - (M : EReal))) := by
  have hpos : (0 : ℝ) < ∑ d, ∑ k, Real.exp (y d k - M) :=
    Finset.sum_pos (fun d _ => Finset.sum_pos (fun k _ => Real.exp_pos _) ⟨0, Finset.mem_univ _⟩) ⟨0, Finset.mem_univ _⟩
  simp only [exp_sub_coe, coe_sum, ← EReal.coe_mul]
  rw [carried, div_coe _ hpos.ne', div_coe _ hpos.ne', ← EReal.coe_mul, ← mul_div_assoc, ← Real.exp_add]
  congr 3; ring

end Cert.Softmax

end
-- ==== Proof.ValueI.lean ====
/- What the kernel computes, over the extended reals: each device's result array after the run, entry by entry, as exponentials of its
   own block times a quotient made of the four devices' row statistics. -/
module

public import proofs.«01_k».proof.Proof.LaunchI
public import proofs.«01_k».proof.Proof.Softmax
public import Idealize.ShloMosaic.Lib.Pointwise

@[expose] public section

noncomputable section

namespace Cert.KernelIdeal.Exchange

open Cert.KernelIdeal Cert.KernelIdeal.Gen
open Idealize.ShloMosaic Idealize.ShloMosaic.TcCoe Idealize.SL.Sem

/-! ## The arrays before and after -/

section Arrays

variable {F : FTy → Type} [FloatOps F]
variable (m : (ℓ : Loc nD τ sig) → Buf (Elt F) ℓ) (ρ : Dev nD → PrngReg)

/-- The input window's one block is the whole argument array. -/
theorem read_x (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f

/-- The output window's one block is the whole result array. -/
theorem read_o (c : Dev nD) (f : Buf (Elt F) ((c : Thread nD τ).loc main_v1)) : (win0_1.blk t0_0).view.read (Elt F) f = f :=
  Memref.read_access_unit_zero (Elt F) main_v1
    (show (fun a => (win0_1.index t0_0) a * main_v1.ty.shape.size a) = fun _ => 0 from funext fun a => by fin_cases a <;> decide)
    (fun a => by fin_cases a <;> decide) f

/-- What the body reads as its input is the device's argument array. -/
theorem xstg_eq (c : Dev nD) : xstg m ρ c = m ((c : Thread nD τ).loc main_arg0) := read_x c _

/-- After the run the result array is what the body left in the output's staging buffer. -/
theorem finalA_o (c : Dev nD) : finalA m ρ c (1 : Fin 2) = outAt m ρ c := by
  refine (read_o c (finalA m ρ c (1 : Fin 2))).symm.trans ?_
  unfold finalA
  rw [show cfg0.N = t0_0.val + 1 from rfl, (dats m ρ 0 c).arrAt_succ (1 : Fin 2) t0_0,
    show (cfg0.win (1 : Fin 2)).flush t0_0 = true from by decide, if_pos rfl]
  exact View.read_write_univ _ _

/-- Launched with any arguments, the kernel ends with its result on every device and every argument unchanged. -/
theorem run_value : θ_run defs (onTc (τ := τ) (main (F := F))) ⟨m, fun _ => 0, ρ⟩ (fun r => ∀ c : Dev nD,
    r.2.mem ((c.tc : Thread nD τ).loc main_v1) = outAt m ρ c
      ∧ r.2.mem ((c.tc : Thread nD τ).loc main_arg0) = m ((c.tc : Thread nD τ).loc main_arg0)) :=
  (θ_run defs _ _).mono (fun _ h c => ⟨(h.1 c 1).trans (finalA_o m ρ c), (h.1 c 0).trans (finalA_x m ρ c)⟩) (run_main m ρ)

end Arrays

/-! ## The payloads, entry by entry -/

/-- The greatest entry of row `r`. -/
def rowMax (x : FVec Ideal S2048x2048 .f32) (r : Fin 2048) : EReal := Finset.univ.sup fun k : Fin 2048 => (x (ix2 r k) : EReal)

/-- The sum over row `r` of the exponentials of the entries less the row's greatest. -/
def rowSum (x : FVec Ideal S2048x2048 .f32) (r : Fin 2048) : EReal :=
  ∑ k : Fin 2048, Ideal.exp ((x (ix2 r k) : EReal) - rowMax x r)

/-- The word of minus infinity denotes the least extended real. -/
theorem ofBits_neg_inf : Ideal.ofBits .f32 0xFF800000#32 = ⊥ := by simp [Ideal.ofBits, Ideal.ieee]

/-- The word of plus infinity denotes the greatest extended real. -/
theorem ofBits_pos_inf : Ideal.ofBits .f32 0x7F800000#32 = ⊤ := by simp [Ideal.ofBits, Ideal.ieee]

theorem pay3_at (x : FVec Ideal S2048x2048 .f32) (r : Fin 2048) (z : Fin 1) : k0_pay3 (F := Ideal) x (ix2 r z) = rowMax x r := by
  pointwise [k0_pay3, k0_pay2, rowMax]
  rw [ofBits_neg_inf]; rfl

theorem pay4_at (x : FVec Ideal S2048x2048 .f32) (r l : Fin 2048) :
    k0_pay4 (F := Ideal) x (ix2 r l) = Ideal.exp ((x (ix2 r l) : EReal) - rowMax x r) := by
  pointwise [k0_pay4, k0_pay2]
  rw [pay3_at]

/-- The statistics of a block: in row 0 its rows' greatest entries. -/
theorem pay5_max (x : FVec Ideal S2048x2048 .f32) (r : Fin 2048) (z : Fin 1) : k0_pay5 (F := Ideal) x (ix3 z 0 r) = rowMax x r := by
  pointwise [k0_pay5]
  exact pay3_at x r 0

/-- In row 1 its rows' sums of exponentials. -/
theorem pay5_sum (x : FVec Ideal S2048x2048 .f32) (r : Fin 2048) (z : Fin 1) : k0_pay5 (F := Ideal) x (ix3 z 1 r) = rowSum x r := by
  pointwise [k0_pay5, rowSum]
  exact Finset.sum_congr rfl fun k _ => pay4_at x r k

/-- The kernel's last step at an entry, from the four slots' maxima `a` and sums `s`. -/
theorem final_at (e : FVec Ideal S2048x2048 .f32) (a s : Fin 4 → Vec Ideal S1x1x2048 .f32) (r l : Fin 2048) :
    k0_pay1 (F := Ideal) (k0_pay10 e) (k0_pay11 (k0_pay6 (a 0)) (k0_pay7 (a 0) (a 1) (a 2) (a 3)) k0_pay8
        (k0_pay9 (s 0)) (a 0) (s 1) (a 1) (s 2) (a 2) (s 3) (a 3)) (ix2 r l)
      = (e (ix2 r l) : EReal) * Ideal.div
          (Ideal.exp ((a 0 (ix3 0 0 r) : EReal) - Finset.univ.sup fun d => (a d (ix3 0 0 r) : EReal)))
          (∑ d, (s d (ix3 0 0 r) : EReal) * Ideal.exp ((a d (ix3 0 0 r) : EReal) - Finset.univ.sup fun d => (a d (ix3 0 0 r) : EReal))) := by
  have hM : (Finset.univ.sup fun d => (a d (ix3 0 0 r) : EReal))
      = max (max (max (a 0 (ix3 0 0 r)) (a 1 (ix3 0 0 r))) (a 2 (ix3 0 0 r))) (a 3 (ix3 0 0 r)) := by
    rw [show (Finset.univ : Finset (Fin 4)) = {0, 1, 2, 3} from rfl]
    simp only [Finset.sup_insert, Finset.sup_singleton, sup_assoc]
  rw [hM, Fin.sum_univ_four]
  pointwise [k0_pay1, k0_pay10, k0_pay11, k0_pay6, k0_pay7, k0_pay8, k0_pay9]

/-! ## The result -/

variable (m : (ℓ : Loc nD τ sig) → Buf (Elt Ideal) ℓ) (ρ : Dev nD → PrngReg)

/-- Device `c`'s argument array. -/
def block (c : Dev nD) : FVec Ideal S2048x2048 .f32 := m ((c : Thread nD τ).loc main_arg0)

/-- The device whose statistics lie in slot `d` of device `c` after the exchange. -/
def owner (c : Dev nD) (d : Fin 4) : Dev nD := Fin.cases c (fun i => from' c i) d

/-- The four slots hold the statistics of the four devices, each once. -/
theorem owner_bijective (c : Dev nD) : Function.Bijective (owner c) := by revert c; decide

theorem slotStats_eq (c : Dev nD) (d : Fin 4) : slotStats m ρ c d = stats m ρ (owner c d) := by
  unfold slotStats owner
  refine Fin.cases rfl (fun i => rfl) d

theorem rowAt_max (c : Dev nD) (d : Fin 4) (r : Fin 2048) : rowAt m ρ c d 0 (ix3 0 0 r) = rowMax (block m (owner c d)) r := by
  unfold rowAt; rw [slotStats_eq]; exact (pay5_max _ r 0).trans (by rw [xstg_eq]; rfl)

theorem rowAt_sum (c : Dev nD) (d : Fin 4) (r : Fin 2048) : rowAt m ρ c d 1 (ix3 0 0 r) = rowSum (block m (owner c d)) r := by
  unfold rowAt; rw [slotStats_eq]; exact (pay5_sum _ r 0).trans (by rw [xstg_eq]; rfl)

/-- Device `c`'s result at an entry: its block's exponential times the quotient of the factor that carries its row maximum to the
    greatest of the four, and the four row sums so carried. -/
theorem outAt_at (c : Dev nD) (r l : Fin 2048) :
    outAt m ρ c (ix2 r l)
      = Ideal.exp ((block m c (ix2 r l) : EReal) - rowMax (block m c) r) * Ideal.div
          (Ideal.exp (rowMax (block m c) r - Finset.univ.sup fun d : Dev nD => rowMax (block m d) r))
          (∑ d : Dev nD, rowSum (block m d) r
            * Ideal.exp (rowMax (block m d) r - Finset.univ.sup fun d : Dev nD => rowMax (block m d) r)) := by
  have hsup : (Finset.univ.sup fun d => (rowAt m ρ c d 0 (ix3 0 0 r) : EReal)) = Finset.univ.sup fun d : Dev nD => rowMax (block m d) r := by
    simp only [rowAt_max, Finset.sup_univ_eq_iSup]
    exact Equiv.iSup_comp (g := fun d : Dev nD => rowMax (block m d) r) (Equiv.ofBijective _ (owner_bijective c))
  refine (final_at (k0_pay4 (xstg m ρ c)) (fun d => rowAt m ρ c d 0) (fun d => rowAt m ρ c d 1) r l).trans ?_
  rw [hsup, pay4_at, xstg_eq]
  simp only [rowAt_max, rowAt_sum]
  rw [(owner_bijective c).sum_comp fun d : Dev nD => rowSum (block m d) r
            * Ideal.exp (rowMax (block m d) r - Finset.univ.sup fun d : Dev nD => rowMax (block m d) r)]
  rfl

end Cert.KernelIdeal.Exchange

end
-- ==== Proof.RefI.lean ====
/- What the reference computes, over the extended reals: each entry's exponential below its row's maximum, divided by the row's sum of them. -/
module

public import proofs.«01_k».proof.Proof.Gen.ReferenceIdeal.Run
public import Idealize.ShloMosaic.Lib.Pointwise
public import Idealize.ShloMosaic.Lib.IdealHost

@[expose] public section

noncomputable section

namespace Cert.ReferenceIdeal.Softmax

open Cert.ReferenceIdeal Cert.ReferenceIdeal.Gen
open Idealize.ShloMosaic Idealize.ShloMosaic.TcCoe Idealize.SL.Sem

/-- The greatest entry of each row. -/
def maxes (x : FVec Ideal S2048x8192 .f32) : FVec Ideal S2048 .f32 :=
  Host.reduce FloatOps.maximumf x (constant S_ .f32 0xFF800000#32) reducesTo_S2048x8192_S2048_d1 h_S_

/-- The exponentials of the entries, each less its row's greatest. -/
def exps (x : FVec Ideal S2048x8192 .f32) : FVec Ideal S2048x8192 .f32 :=
  Host.exp (subf x (broadcastInDim S2048x8192 ![0, 1] bcast_S2048x1_S2048x8192_0_1 (broadcastInDim S2048x1 ![0] bcast_S2048_S2048x1_0 (maxes x))))

/-- The reference's result. -/
def out (x : FVec Ideal S2048x8192 .f32) : FVec Ideal S2048x8192 .f32 :=
  Host.divf (exps x) (broadcastInDim S2048x8192 ![0, 1] bcast_S2048x1_S2048x8192_0_1 (broadcastInDim S2048x1 ![0] bcast_S2048_S2048x1_0
    (Host.reduceAdd (exps x) (constant S_ .f32 0x00000000#32) reducesTo_S2048x8192_S2048_d1 h_S_)))

theorem maxes_at (x : FVec Ideal S2048x8192 .f32) (r : Fin 2048) :
    maxes x (ix1 r) = Finset.univ.sup fun k : Fin 8192 => (x (ix2 r k) : EReal) := by
  pointwise [maxes]
  rw [show Ideal.ofBits .f32 0xFF800000#32 = ⊥ from by simp [Ideal.ofBits, Ideal.ieee]]; rfl

theorem exps_at (x : FVec Ideal S2048x8192 .f32) (r : Fin 2048) (k : Fin 8192) :
    exps x (ix2 r k) = Ideal.exp ((x (ix2 r k) : EReal) - Finset.univ.sup fun k : Fin 8192 => (x (ix2 r k) : EReal)) := by
  pointwise [exps]
  rw [maxes_at]

/-- The reference's result at an entry. -/
theorem out_at (x : FVec Ideal S2048x8192 .f32) (r : Fin 2048) (k : Fin 8192) :
    out x (ix2 r k) = Ideal.div (Ideal.exp ((x (ix2 r k) : EReal) - Finset.univ.sup fun k : Fin 8192 => (x (ix2 r k) : EReal)))
      (∑ j : Fin 8192, Ideal.exp ((x (ix2 r j) : EReal) - Finset.univ.sup fun k : Fin 8192 => (x (ix2 r k) : EReal))) := by
  pointwise [out]
  simp only [exps_at]

/-- Launched with any argument, the reference ends with `out` of it as its result, and the argument unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = out (m ((c.tc : Thread nD τ).loc main_arg0))
      ∧ r.2.mem ((c.tc : Thread nD τ).loc main_arg0) = m ((c.tc : Thread nD τ).loc main_arg0) :=
  Cert.ReferenceIdeal.Value.run m ρ

end Cert.ReferenceIdeal.Softmax

end
-- ==== Proof.Equation.lean ====
/- The kernel's result and the reference's are the same function, over the extended reals, of arguments that are finite: every
   device's result array is its block of columns of the reference's. -/
module

public import proofs.«01_k».proof.Defs
public import proofs.«01_k».proof.Proof.ValueI
public import proofs.«01_k».proof.Proof.RefI
public import Idealize.ShloMosaic.Lib.LayoutAt

@[expose] public section

noncomputable section

/-! ## The precondition -/

namespace Cert.Pre_finite_KernelIdeal

open Idealize.ShloMosaic

/-- The side condition that the precondition's program states. -/
instance facts : Cert.Pre_finite_KernelIdeal.Facts := ⟨by decide⟩

/-- Where the precondition's program answers one everywhere, no entry is an infinity. -/
theorem finite_of_fn {x : FVec Ideal S2048x2048 .f32} (h : fn (F := Ideal) x = fun _ => 1#1) (i : S2048x2048.Idx) :
    (x i : EReal) ≠ ⊥ ∧ (x i : EReal) ≠ ⊤ := by
  have hi := congrFun h i
  revert hi
  pointwise [fn]
  rw [Cert.KernelIdeal.Exchange.ofBits_neg_inf, Cert.KernelIdeal.Exchange.ofBits_pos_inf]
  intro hb
  by_cases h1 : (⊥ : EReal) < x i <;> by_cases h2 : (x i : EReal) < ⊤ <;> simp [h1, h2, IntOp.andi] at hb
  exact ⟨h1.ne', h2.ne⟩

end Cert.Pre_finite_KernelIdeal

/-- The same for the precondition printed at the reference's arguments. -/
instance Cert.Pre_finite_ReferenceIdeal.facts : Cert.Pre_finite_ReferenceIdeal.Facts := ⟨by decide⟩

namespace Cert.Equation

open Idealize.ShloMosaic Idealize.ShloMosaic.TcCoe Idealize.SL.Sem
open Cert.Softmax (col)
open Cert.KernelIdeal.Exchange (block rowMax rowSum outAt)

/-- Block `c` of four along the columns, at an entry: the whole array in column `l` of block `c`. -/
theorem block_at {α : Type} (X : (⟨2, ![2048, 8192]⟩ : Shape).Idx → α) (h : Layout.Tiles ⟨2, ![2048, 2048]⟩ ⟨2, ![2048, 8192]⟩ 1 4) (c : Fin 4) (r l : Fin 2048) :
    Layout.block ⟨2, ![2048, 2048]⟩ ⟨2, ![2048, 8192]⟩ 1 4 c X h (ix2 r l) = X (ix2 r (col c l)) := by
  unfold col
  shard_ext

/-- Device `c`'s result is block `c` of the reference's, where every device's argument is its block of the reference's and no entry
    is an infinity. -/
theorem result_eq (m : (ℓ : Loc Cert.KernelIdeal.nD Cert.KernelIdeal.τ Cert.KernelIdeal.sig) → Buf (Elt Ideal) ℓ)
    (ρ : Dev Cert.KernelIdeal.nD → PrngReg) (X : FVec Ideal ⟨2, ![2048, 8192]⟩ .f32)
    (hX : ∀ c : Dev Cert.KernelIdeal.nD, block m c = Layout.block ⟨2, ![2048, 2048]⟩ ⟨2, ![2048, 8192]⟩ 1 4 c X)
    (hfin : ∀ (c : Dev Cert.KernelIdeal.nD) i, (block m c i : EReal) ≠ ⊥ ∧ (block m c i : EReal) ≠ ⊤) (c : Dev Cert.KernelIdeal.nD) :
    outAt m ρ c = Layout.block ⟨2, ![2048, 2048]⟩ ⟨2, ![2048, 8192]⟩ 1 4 c (Cert.ReferenceIdeal.Softmax.out X) := by
  refine funext fun (i : (⟨2, ![2048, 2048]⟩ : Shape).Idx) => ?_
  obtain ⟨r, l, rfl⟩ : ∃ r l : Fin 2048, i = ix2 r l := ⟨i 0, i 1, eq_ix2 i⟩
  have hx : ∀ (d : Fin 4) (k : Fin 2048), block m d (ix2 r k) = X (ix2 r (col d k)) := fun d k => by
    rw [hX d]; exact block_at X _ d r k
  -- the entries of row `r` as real numbers, the blocks' maxima and the row's maximum
  obtain ⟨y, hy⟩ : ∃ y : Fin 4 → Fin 2048 → ℝ, ∀ d k, (X (ix2 r (col d k)) : EReal) = y d k :=
    ⟨fun d k => (X (ix2 r (col d k)) : EReal).toReal, fun d k => by
      have h := hfin d (ix2 r k)
      rw [hx] at h
      exact (EReal.coe_toReal h.2 h.1).symm⟩
  have hmax : ∀ d : Fin 4, ∃ μ : ℝ, rowMax (block m d) r = μ := fun d => by
    obtain ⟨μ, hμ⟩ := Cert.Softmax.sup_real (y d)
    refine ⟨μ, ?_⟩
    unfold rowMax
    simp only [hx, hy]; exact hμ
  choose μ hμ using hmax
  obtain ⟨M, hM⟩ := Cert.Softmax.sup_real μ
  have hMk : (Finset.univ.sup fun d : Dev Cert.KernelIdeal.nD => rowMax (block m d) r) = (M : EReal) := by
    simp only [hμ]; exact hM
  have hMr : (Finset.univ.sup fun k : Fin 8192 => (X (ix2 r k) : EReal)) = (M : EReal) := by
    rw [Cert.Softmax.sup_cols, ← hMk]
    unfold rowMax
    simp only [hx]
  have hsum : ∀ d : Fin 4, rowSum (block m d) r = ∑ k, Ideal.exp ((y d k : EReal) - (μ d : EReal)) := fun d => by
    unfold rowSum
    simp only [hμ, hx, hy]
  rw [Cert.KernelIdeal.Exchange.outAt_at, block_at, Cert.ReferenceIdeal.Softmax.out_at, hMk, hMr, Cert.Softmax.sum_cols]
  simp only [hsum, hμ, hx, hy]
  exact Cert.Softmax.entry y μ M c l

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

section Kernel

variable {F : FTy → Type} [FloatOps F]

/-- No operation was replaced in the kernel's idealization, so at any float instance the two printed programs are one, and so are their runs. -/
theorem same_run (s : MemSt Cert.Kernel.nD Cert.Kernel.τ Cert.Kernel.sig (Elt F)) (Q : PUnit × MemSt Cert.Kernel.nD Cert.Kernel.τ Cert.Kernel.sig (Elt F) → Prop) :
    θ_run (Cert.Kernel.defs (F := F)) (onTc (τ := Cert.Kernel.τ) (Cert.Kernel.main (F := F))) s Q
      = θ_run (Cert.KernelIdeal.defs (F := F)) (onTc (τ := Cert.KernelIdeal.τ) (Cert.KernelIdeal.main (F := F))) s Q := by
  chain_rfl

end Kernel

/-- The kernel's frame. -/
theorem frame_k : Cert.quiescent_Kernel := fun m ρ _ =>
  (same_run _ _).mpr (Cert.KernelIdeal.Exchange.run_frame m ρ)

/-- The idealized kernel's frame. -/
theorem frame_ki : Cert.quiescent_KernelIdeal := fun m ρ _ => Cert.KernelIdeal.Exchange.run_frame m ρ

/-- The reference's frame: it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Softmax.run_out m ρ)

/-- Over the extended reals, on finite arguments, kernel and reference compute the same function. -/
theorem equal : Cert.algebraic_KernelIdeal_ReferenceIdeal_pre_finite_KernelIdeal := by
  intro m ρ m' ρ' hpre hX
  refine ⟨Cert.ReferenceIdeal.Softmax.out (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun r h c => ⟨(h c).1.trans
        (Cert.Equation.result_eq m ρ _ hX (fun d i => Cert.Pre_finite_KernelIdeal.finite_of_fn (hpre d) i) c), (h c).2⟩)
      (Cert.KernelIdeal.Exchange.run_value m ρ)
  · exact (θ_run Cert.ReferenceIdeal.defs _ _).mono (fun r h => h 0) (Cert.ReferenceIdeal.Softmax.run_out m' ρ')

/-- Everything claimed. -/
theorem claim : Cert.Claim :=
  ⟨Cert.Kernel.Gen.facts, Cert.KernelIdeal.Gen.facts, Cert.ReferenceIdeal.Gen.facts, Cert.Pre_finite_KernelIdeal.facts,
    Cert.Pre_finite_ReferenceIdeal.facts, frame_k, frame_ki, fun m ρ _ => frame_ki m ρ trivial, frame_ri, fun m ρ _ => frame_ri m ρ trivial,
    trivial, equal⟩

end Cert.Proof

end
